-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_encoder_finite [hPre_encoder_finite : Cert.Pre_encoder_finite.Facts] (m : (ℓ : Loc Cert.KernelIdeal.nD Cert.KernelIdeal.τ Cert.KernelIdeal.sig) → Buf (Elt Ideal) ℓ) : Prop :=
  ∀ c : Dev Cert.KernelIdeal.nD,
    (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_encoder_finite [hPre_encoder_finite : Cert.Pre_encoder_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_encoder_finite [hKernelIdeal : Cert.KernelIdeal.Facts] [hPre_encoder_finite : Cert.Pre_encoder_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_encoder_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_encoder_finite [hReferenceIdeal : Cert.ReferenceIdeal.Facts] [hPre_encoder_finite : Cert.Pre_encoder_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_encoder_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_encoder_finite [hKernelIdeal : Cert.KernelIdeal.Facts] [hReferenceIdeal : Cert.ReferenceIdeal.Facts] [hPre_encoder_finite : Cert.Pre_encoder_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_encoder_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v395) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_encoder_finite : Cert.Pre_encoder_finite.Facts),
    quiescent_Kernel (hKernel := hKernel)
    ∧ quiescent_KernelIdeal (hKernelIdeal := hKernelIdeal)
    ∧ quiescent_KernelIdeal_pre_encoder_finite (hKernelIdeal := hKernelIdeal) (hPre_encoder_finite := hPre_encoder_finite)
    ∧ quiescent_ReferenceIdeal (hReferenceIdeal := hReferenceIdeal)
    ∧ quiescent_ReferenceIdeal_pre_encoder_finite (hReferenceIdeal := hReferenceIdeal) (hPre_encoder_finite := hPre_encoder_finite)
    ∧ preserves_Kernel_KernelIdeal
    ∧ algebraic_KernelIdeal_ReferenceIdeal_pre_encoder_finite (hKernelIdeal := hKernelIdeal) (hReferenceIdeal := hReferenceIdeal) (hPre_encoder_finite := hPre_encoder_finite)
-- ==== Pre_encoder_finite.lean ====
abbrev S2000000x4 : Shape := ⟨2, ![2000000, 4]⟩
abbrev S4x64 : Shape := ⟨2, ![4, 64]⟩
abbrev S64 : Shape := ⟨1, ![64]⟩
abbrev S64x32 : Shape := ⟨2, ![64, 32]⟩
abbrev S32 : Shape := ⟨1, ![32]⟩
abbrev S32x8 : Shape := ⟨2, ![32, 8]⟩
abbrev S8 : Shape := ⟨1, ![8]⟩
abbrev S8x3 : Shape := ⟨2, ![8, 3]⟩
abbrev S3 : Shape := ⟨1, ![3]⟩
abbrev S10x3x32 : Shape := ⟨3, ![10, 3, 32]⟩
abbrev S10x32 : Shape := ⟨2, ![10, 32]⟩
abbrev S10x32x3 : Shape := ⟨3, ![10, 32, 3]⟩
abbrev S10x3 : Shape := ⟨2, ![10, 3]⟩
abbrev S_ : Shape := ⟨0, ![]⟩

class Facts : Prop where
  bcast_S_S2000000x4 : S_.BroadcastsInDim S2000000x4 (![] : Fin 0 → Fin S2000000x4.rank)
  bcast_S_S4x64 : S_.BroadcastsInDim S4x64 (![] : Fin 0 → Fin S4x64.rank)
  bcast_S_S64 : S_.BroadcastsInDim S64 (![] : Fin 0 → Fin S64.rank)
  bcast_S_S64x32 : S_.BroadcastsInDim S64x32 (![] : Fin 0 → Fin S64x32.rank)
  bcast_S_S32 : S_.BroadcastsInDim S32 (![] : Fin 0 → Fin S32.rank)
  bcast_S_S32x8 : S_.BroadcastsInDim S32x8 (![] : Fin 0 → Fin S32x8.rank)
  bcast_S_S8 : S_.BroadcastsInDim S8 (![] : Fin 0 → Fin S8.rank)
  bcast_S_S8x3 : S_.BroadcastsInDim S8x3 (![] : Fin 0 → Fin S8x3.rank)

variable [Facts]

def fn_part1 {F : FTy → Type} [FloatOps F] (main_arg6 : FVec F S8 .f32) (main_arg7 : FVec F S8x3 .f32) (main_v2 : IVec S2000000x4 1) (main_v5 : IVec S4x64 1) (main_v8 : IVec S64 1) (main_v11 : IVec S64x32 1) (main_v14 : IVec S32 1) (main_v17 : IVec S32x8 1) : IVec S2000000x4 1 × IVec S4x64 1 × IVec S64 1 × IVec S64x32 1 × IVec S32 1 × IVec S32x8 1 × IVec S8 1 × IVec S8x3 1 :=
  let main_v18 : FVec F S8 .f32 := Host.absf main_arg6
  let main_cst_5 : FVec F S_ .f32 := constant S_ .f32 0x7F800000#32
  let main_v19 : FVec F S8 .f32 := broadcastInDim S8 ![] bcast_S_S8 main_cst_5
  let main_v20 : IVec S8 1 := cmpf .olt main_v18 main_v19
  let main_v21 : FVec F S8x3 .f32 := Host.absf main_arg7
  let main_cst_6 : FVec F S_ .f32 := constant S_ .f32 0x7F800000#32
  let main_v22 : FVec F S8x3 .f32 := broadcastInDim S8x3 ![] bcast_S_S8x3 main_cst_6
  let main_v23 : IVec S8x3 1 := cmpf .olt main_v21 main_v22
  (main_v2, main_v5, main_v8, main_v11, main_v14, main_v17, main_v20, main_v23)

def fn {F : FTy → Type} [FloatOps F] (main_arg0 : FVec F S2000000x4 .f32) (main_arg1 : FVec F S4x64 .f32) (main_arg2 : FVec F S64 .f32) (main_arg3 : FVec F S64x32 .f32) (main_arg4 : FVec F S32 .f32) (main_arg5 : FVec F S32x8 .f32) (main_arg6 : FVec F S8 .f32) (main_arg7 : FVec F S8x3 .f32) (main_arg8 : FVec F S3 .f32) (main_arg9 : FVec F S10x3x32 .f32) (main_arg10 : FVec F S10x32 .f32) (main_arg11 : FVec F S10x32x3 .f32) (main_arg12 : FVec F S10x3 .f32) (main_arg13 : FVec F S10x32x3 .f32) (main_arg14 : FVec F S10x3 .f32) : IVec S2000000x4 1 × IVec S4x64 1 × IVec S64 1 × IVec S64x32 1 × IVec S32 1 × IVec S32x8 1 × IVec S8 1 × IVec S8x3 1 :=
  let main_v0 : FVec F S2000000x4 .f32 := Host.absf main_arg0
  let main_cst : FVec F S_ .f32 := constant S_ .f32 0x7F800000#32
  let main_v1 : FVec F S2000000x4 .f32 := broadcastInDim S2000000x4 ![] bcast_S_S2000000x4 main_cst
  let main_v2 : IVec S2000000x4 1 := cmpf .olt main_v0 main_v1
  let main_v3 : FVec F S4x64 .f32 := Host.absf main_arg1
  let main_cst_0 : FVec F S_ .f32 := constant S_ .f32 0x7F800000#32
  let main_v4 : FVec F S4x64 .f32 := broadcastInDim S4x64 ![] bcast_S_S4x64 main_cst_0
  let main_v5 : IVec S4x64 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S64x32 .f32 := Host.absf main_arg3
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_v12 : FVec F S32 .f32 := Host.absf main_arg4
  let main_cst_3 : FVec F S_ .f32 := constant S_ .f32 0x7F800000#32
  let main_v13 : FVec F S32 .f32 := broadcastInDim S32 ![] bcast_S_S32 main_cst_3
  let main_v14 : IVec S32 1 := cmpf .olt main_v12 main_v13
  let main_v15 : FVec F S32x8 .f32 := Host.absf main_arg5
  let main_cst_4 : FVec F S_ .f32 := constant S_ .f32 0x7F800000#32
  let main_v16 : FVec F S32x8 .f32 := broadcastInDim S32x8 ![] bcast_S_S32x8 main_cst_4
  let main_v17 : IVec S32x8 1 := cmpf .olt main_v15 main_v16
  fn_part1 (F := F) main_arg6 main_arg7 main_v2 main_v5 main_v8 main_v11 main_v14 main_v17
-- ==== Kernel.lean ====
abbrev S2000000x4 : Shape := ⟨2, ![2000000, 4]⟩
abbrev S4x64 : Shape := ⟨2, ![4, 64]⟩
abbrev S64 : Shape := ⟨1, ![64]⟩
abbrev S64x32 : Shape := ⟨2, ![64, 32]⟩
abbrev S32 : Shape := ⟨1, ![32]⟩
abbrev S32x8 : Shape := ⟨2, ![32, 8]⟩
abbrev S8 : Shape := ⟨1, ![8]⟩
abbrev S8x3 : Shape := ⟨2, ![8, 3]⟩
abbrev S3 : Shape := ⟨1, ![3]⟩
abbrev S10x3x32 : Shape := ⟨3, ![10, 3, 32]⟩
abbrev S10x32 : Shape := ⟨2, ![10, 32]⟩
abbrev S10x32x3 : Shape := ⟨3, ![10, 32, 3]⟩
abbrev S10x3 : Shape := ⟨2, ![10, 3]⟩
abbrev S3x32 : Shape := ⟨2, ![3, 32]⟩
abbrev S32x3 : Shape := ⟨2, ![32, 3]⟩
abbrev S10 : Shape := ⟨1, ![10]⟩
abbrev S_ : Shape := ⟨0, ![]⟩
abbrev S1x3x32 : Shape := ⟨3, ![1, 3, 32]⟩
abbrev S1x32x3 : Shape := ⟨3, ![1, 32, 3]⟩
abbrev S10x1x1 : Shape := ⟨3, ![10, 1, 1]⟩
abbrev S10x1 : Shape := ⟨2, ![10, 1]⟩
abbrev S64x4 : Shape := ⟨2, ![64, 4]⟩
abbrev S32x64 : Shape := ⟨2, ![32, 64]⟩
abbrev S10x5x32 : Shape := ⟨3, ![10, 5, 32]⟩
abbrev S10x16x32 : Shape := ⟨3, ![10, 16, 32]⟩
abbrev S10x5 : Shape := ⟨2, ![10, 5]⟩
abbrev S10x16 : Shape := ⟨2, ![10, 16]⟩
abbrev S64x1 : Shape := ⟨2, ![64, 1]⟩
abbrev S32x1 : Shape := ⟨2, ![32, 1]⟩
abbrev S3x1 : Shape := ⟨2, ![3, 1]⟩
abbrev S10x32x1 : Shape := ⟨3, ![10, 32, 1]⟩
abbrev S10x16x1 : Shape := ⟨3, ![10, 16, 1]⟩
abbrev S4x2015232 : Shape := ⟨2, ![4, 2015232]⟩
abbrev S4x2000000 : Shape := ⟨2, ![4, 2000000]⟩
abbrev S1 : Shape := ⟨1, ![1]⟩
abbrev S3x2015232 : Shape := ⟨2, ![3, 2015232]⟩
abbrev S4x8192 : Shape := ⟨2, ![4, 8192]⟩
abbrev S3x8192 : Shape := ⟨2, ![3, 8192]⟩
abbrev S64x8192 : Shape := ⟨2, ![64, 8192]⟩
abbrev S32x8192 : Shape := ⟨2, ![32, 8192]⟩
abbrev S1x8192 : Shape := ⟨2, ![1, 8192]⟩
abbrev S1x32x1 : Shape := ⟨3, ![1, 32, 1]⟩
abbrev S1x16x32 : Shape := ⟨3, ![1, 16, 32]⟩
abbrev S16x32 : Shape := ⟨2, ![16, 32]⟩
abbrev S16x8192 : Shape := ⟨2, ![16, 8192]⟩
abbrev S1x16x1 : Shape := ⟨3, ![1, 16, 1]⟩
abbrev S16x1 : Shape := ⟨2, ![16, 1]⟩
abbrev S3x2000000 : Shape := ⟨2, ![3, 2000000]⟩
abbrev S2000000x3 : Shape := ⟨2, ![2000000, 3]⟩

abbrev nBuf : Space → Nat
  | .hbm => 102
  | .vmem => 14
  | .smem => 0
  | _ => 0

abbrev bufTy : (tb : Table) → Fin (tcTables nBuf tb) → BufTy
  | .hbm, ⟨0, _⟩ => ⟨S2000000x4, .f32⟩
  | .hbm, ⟨1, _⟩ => ⟨S4x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S32x8, .f32⟩
  | .hbm, ⟨6, _⟩ => ⟨S8, .f32⟩
  | .hbm, ⟨7, _⟩ => ⟨S8x3, .f32⟩
  | .hbm, ⟨8, _⟩ => ⟨S3, .f32⟩
  | .hbm, ⟨9, _⟩ => ⟨S10x3x32, .f32⟩
  | .hbm, ⟨10, _⟩ => ⟨S10x32, .f32⟩
  | .hbm, ⟨11, _⟩ => ⟨S10x32x3, .f32⟩
  | .hbm, ⟨12, _⟩ => ⟨S10x3, .f32⟩
  | .hbm, ⟨13, _⟩ => ⟨S10x32x3, .f32⟩
  | .hbm, ⟨14, _⟩ => ⟨S10x3, .f32⟩
  | .hbm, ⟨15, _⟩ => ⟨S3x32, .f32⟩
  | .hbm, ⟨16, _⟩ => ⟨S32x3, .f32⟩
  | .hbm, ⟨17, _⟩ => ⟨S10, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S10, .i32⟩
  | .hbm, ⟨25, _⟩ => ⟨S10, .i32⟩
  | .hbm, ⟨26, _⟩ => ⟨S_, .i32⟩
  | .hbm, ⟨27, _⟩ => ⟨S10, .i32⟩
  | .hbm, ⟨28, _⟩ => ⟨S10, .i1⟩
  | .hbm, ⟨29, _⟩ => ⟨S_, .i32⟩
  | .hbm, ⟨30, _⟩ => ⟨S10, .i32⟩
  | .hbm, ⟨31, _⟩ => ⟨S10, .i1⟩
  | .hbm, ⟨32, _⟩ => ⟨S_, .i32⟩
  | .hbm, ⟨33, _⟩ => ⟨S_, .i1⟩
  | .hbm, ⟨34, _⟩ => ⟨S10, .i1⟩
  | .hbm, ⟨35, _⟩ => ⟨S10, .i1⟩
  | .hbm, ⟨36, _⟩ => ⟨S10, .i1⟩
  | .hbm, ⟨37, _⟩ => ⟨S10, .i32⟩
  | .hbm, ⟨38, _⟩ => ⟨S10, .i32⟩
  | .hbm, ⟨39, _⟩ => ⟨S10, .i32⟩
  | .hbm, ⟨40, _⟩ => ⟨S_, .i32⟩
  | .hbm, ⟨41, _⟩ => ⟨S10, .i32⟩
  | .hbm, ⟨42, _⟩ => ⟨S10, .i1⟩
  | .hbm, ⟨43, _⟩ => ⟨S10, .i1⟩
  | .hbm, ⟨44, _⟩ => ⟨S1x3x32, .f32⟩
  | .hbm, ⟨45, _⟩ => ⟨S10x3x32, .f32⟩
  | .hbm, ⟨46, _⟩ => ⟨S10x3x32, .f32⟩
  | .hbm, ⟨47, _⟩ => ⟨S1x32x3, .f32⟩
  | .hbm, ⟨48, _⟩ => ⟨S10x32x3, .f32⟩
  | .hbm, ⟨49, _⟩ => ⟨S10x32x3, .f32⟩
  | .hbm, ⟨50, _⟩ => ⟨S1x32x3, .f32⟩
  | .hbm, ⟨51, _⟩ => ⟨S10x32x3, .f32⟩
  | .hbm, ⟨52, _⟩ => ⟨S10x32x3, .f32⟩
  | .hbm, ⟨53, _⟩ => ⟨S10x1x1, .i1⟩
  | .hbm, ⟨54, _⟩ => ⟨S10x3x32, .f32⟩
  | .hbm, ⟨55, _⟩ => ⟨S10x3x32, .i1⟩
  | .hbm, ⟨56, _⟩ => ⟨S10x3x32, .f32⟩
  | .hbm, ⟨57, _⟩ => ⟨S10x1x1, .i1⟩
  | .hbm, ⟨58, _⟩ => ⟨S10x32x3, .f32⟩
  | .hbm, ⟨59, _⟩ => ⟨S10x32x3, .i1⟩
  | .hbm, ⟨60, _⟩ => ⟨S10x32x3, .f32⟩
  | .hbm, ⟨61, _⟩ => ⟨S10x1x1, .i1⟩
  | .hbm, ⟨62, _⟩ => ⟨S10x32x3, .f32⟩
  | .hbm, ⟨63, _⟩ => ⟨S10x32x3, .i1⟩
  | .hbm, ⟨64, _⟩ => ⟨S10x32x3, .f32⟩
  | .hbm, ⟨65, _⟩ => ⟨S10x1, .i1⟩
  | .hbm, ⟨66, _⟩ => ⟨S10x3, .f32⟩
  | .hbm, ⟨67, _⟩ => ⟨S10x3, .i1⟩
  | .hbm, ⟨68, _⟩ => ⟨S10x3, .f32⟩
  | .hbm, ⟨69, _⟩ => ⟨S10x1, .i1⟩
  | .hbm, ⟨70, _⟩ => ⟨S10x3, .f32⟩
  | .hbm, ⟨71, _⟩ => ⟨S10x3, .i1⟩
  | .hbm, ⟨72, _⟩ => ⟨S10x3, .f32⟩
  | .hbm, ⟨73, _⟩ => ⟨S64x4, .f32⟩
  | .hbm, ⟨74, _⟩ => ⟨S32x64, .f32⟩
  | .hbm, ⟨75, _⟩ => ⟨S32x3, .f32⟩
  | .hbm, ⟨76, _⟩ => ⟨S3, .f32⟩
  | .hbm, ⟨77, _⟩ => ⟨S3, .f32⟩
  | .hbm, ⟨78, _⟩ => ⟨S3x32, .f32⟩
  | .hbm, ⟨79, _⟩ => ⟨S10x32x3, .f32⟩
  | .hbm, ⟨80, _⟩ => ⟨S_, .f32⟩
  | .hbm, ⟨81, _⟩ => ⟨S10x5x32, .f32⟩
  | .hbm, ⟨82, _⟩ => ⟨S10x3x32, .f32⟩
  | .hbm, ⟨83, _⟩ => ⟨S10x3x32, .f32⟩
  | .hbm, ⟨84, _⟩ => ⟨S10x16x32, .f32⟩
  | .hbm, ⟨85, _⟩ => ⟨S_, .f32⟩
  | .hbm, ⟨86, _⟩ => ⟨S10x5, .f32⟩
  | .hbm, ⟨87, _⟩ => ⟨S10x16, .f32⟩
  | .hbm, ⟨88, _⟩ => ⟨S64x1, .f32⟩
  | .hbm, ⟨89, _⟩ => ⟨S32x1, .f32⟩
  | .hbm, ⟨90, _⟩ => ⟨S3x1, .f32⟩
  | .hbm, ⟨91, _⟩ => ⟨S10x32x1, .f32⟩
  | .hbm, ⟨92, _⟩ => ⟨S10x16x1, .f32⟩
  | .hbm, ⟨93, _⟩ => ⟨S_, .f32⟩
  | .hbm, ⟨94, _⟩ => ⟨S4x2015232, .f32⟩
  | .hbm, ⟨95, _⟩ => ⟨S4x2000000, .f32⟩
  | .hbm, ⟨96, _⟩ => ⟨S_, .i32⟩
  | .hbm, ⟨97, _⟩ => ⟨S1, .i32⟩
  | .hbm, ⟨98, _⟩ => ⟨S4x2015232, .f32⟩
  | .hbm, ⟨99, _⟩ => ⟨S3x2015232, .f32⟩
  | .hbm, ⟨100, _⟩ => ⟨S3x2000000, .f32⟩
  | .hbm, ⟨101, _⟩ => ⟨S2000000x3, .f32⟩
  | .local _ .vmem, ⟨0, _⟩ => ⟨S4x8192, .f32⟩
  | .local _ .vmem, ⟨1, _⟩ => ⟨S4x8192, .f32⟩
  | .local _ .vmem, ⟨2, _⟩ => ⟨S64x4, .f32⟩
  | .local _ .vmem, ⟨3, _⟩ => ⟨S64x1, .f32⟩
  | .local _ .vmem, ⟨4, _⟩ => ⟨S32x64, .f32⟩
  | .local _ .vmem, ⟨5, _⟩ => ⟨S32x1, .f32⟩
  | .local _ .vmem, ⟨6, _⟩ => ⟨S3x32, .f32⟩
  | .local _ .vmem, ⟨7, _⟩ => ⟨S3x1, .f32⟩
  | .local _ .vmem, ⟨8, _⟩ => ⟨S10x32x3, .f32⟩
  | .local _ .vmem, ⟨9, _⟩ => ⟨S10x32x1, .f32⟩
  | .local _ .vmem, ⟨10, _⟩ => ⟨S10x16x32, .f32⟩
  | .local _ .vmem, ⟨11, _⟩ => ⟨S10x16x1, .f32⟩
  | .local _ .vmem, ⟨12, _⟩ => ⟨S3x8192, .f32⟩
  | .local _ .vmem, ⟨13, _⟩ => ⟨S3x8192, .f32⟩
  | _, _ => ⟨S2000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_cst_0 : Ref sig .tc := ⟨.hbm, 16, rfl⟩
abbrev main_v0 : Ref sig .tc := ⟨.hbm, 17, rfl⟩
abbrev main_c : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_v5 : Ref sig .tc := ⟨.hbm, 27, rfl⟩
abbrev main_call0_v6 : Ref sig .tc := ⟨.hbm, 28, rfl⟩
abbrev main_call0_c_2 : Ref sig .tc := ⟨.hbm, 29, rfl⟩
abbrev main_call0_v7 : Ref sig .tc := ⟨.hbm, 30, rfl⟩
abbrev main_call0_v8 : Ref sig .tc := ⟨.hbm, 31, rfl⟩
abbrev main_call0_c_3 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v1 : Ref sig .tc := ⟨.hbm, 39, rfl⟩
abbrev main_c_1 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_call1_v0 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_call2_v0 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_call3_v0 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_call4_v0 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_call5_v0 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_cst_2 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_cst_3 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_cst_4 : Ref sig .tc := ⟨.hbm, 93, rfl⟩
abbrev main_v47 : Ref sig .tc := ⟨.hbm, 94, rfl⟩
abbrev main_v48 : Ref sig .tc := ⟨.hbm, 95, rfl⟩
abbrev main_c_5 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨2, ![2, 123], ![false, false]⟩

def cc0_transform_0 (i : grid0.Coords) : Fin 2 → Nat :=
  let arg0 : BitVec 32 := BitVec.ofNat 32 (i 0).val
  let arg1 : BitVec 32 := BitVec.ofNat 32 (i 1).val
  let c123_i32 : BitVec 32 := 123#32
  let v0 : BitVec 32 := Scalar.muli arg0 c123_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c123_i32 : BitVec 32 := 123#32
  let v0 : BitVec 32 := Scalar.muli arg0 c123_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S4x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S10x32x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S10x32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S10x16x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S10x16x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S3x8192 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S2000000x4 : Shape := ⟨2, ![2000000, 4]⟩
abbrev S4x64 : Shape := ⟨2, ![4, 64]⟩
abbrev S64 : Shape := ⟨1, ![64]⟩
abbrev S64x32 : Shape := ⟨2, ![64, 32]⟩
abbrev S32 : Shape := ⟨1, ![32]⟩
abbrev S32x8 : Shape := ⟨2, ![32, 8]⟩
abbrev S8 : Shape := ⟨1, ![8]⟩
abbrev S8x3 : Shape := ⟨2, ![8, 3]⟩
abbrev S3 : Shape := ⟨1, ![3]⟩
abbrev S10x3x32 : Shape := ⟨3, ![10, 3, 32]⟩
abbrev S10x32 : Shape := ⟨2, ![10, 32]⟩
abbrev S10x32x3 : Shape := ⟨3, ![10, 32, 3]⟩
abbrev S10x3 : Shape := ⟨2, ![10, 3]⟩
abbrev S_ : Shape := ⟨0, ![]⟩
abbrev S1x32 : Shape := ⟨2, ![1, 32]⟩
abbrev S3x1 : Shape := ⟨2, ![3, 1]⟩
abbrev S3x32 : Shape := ⟨2, ![3, 32]⟩
abbrev S1x3 : Shape := ⟨2, ![1, 3]⟩
abbrev S32x1 : Shape := ⟨2, ![32, 1]⟩
abbrev S32x3 : Shape := ⟨2, ![32, 3]⟩
abbrev S2000000x64 : Shape := ⟨2, ![2000000, 64]⟩
abbrev S1x64 : Shape := ⟨2, ![1, 64]⟩
abbrev S2000000x32 : Shape := ⟨2, ![2000000, 32]⟩
abbrev S2000000x8 : Shape := ⟨2, ![2000000, 8]⟩
abbrev S1x8 : Shape := ⟨2, ![1, 8]⟩
abbrev S2000000x3 : Shape := ⟨2, ![2000000, 3]⟩
abbrev S1x3x32 : Shape := ⟨3, ![1, 3, 32]⟩
abbrev S1x32x3 : Shape := ⟨3, ![1, 32, 3]⟩
abbrev S2000000x1 : Shape := ⟨2, ![2000000, 1]⟩
abbrev S2000000 : Shape := ⟨1, ![2000000]⟩

abbrev nBuf : Space → Nat
  | .hbm => 441
  | .vmem => 0
  | .smem => 0
  | _ => 0

abbrev hbmTy0_0 (i : Nat) : BufTy := match i % 128 with
  | 0 => ⟨S2000000x4, .f32⟩
  | 1 => ⟨S4x64, .f32⟩
  | 2 => ⟨S64, .f32⟩
  | 3 => ⟨S64x32, .f32⟩
  | 4 => ⟨S32, .f32⟩
  | 5 => ⟨S32x8, .f32⟩
  | 6 => ⟨S8, .f32⟩
  | 7 => ⟨S8x3, .f32⟩
  | 8 => ⟨S3, .f32⟩
  | 9 => ⟨S10x3x32, .f32⟩
  | 10 => ⟨S10x32, .f32⟩
  | 11 => ⟨S10x32x3, .f32⟩
  | 12 => ⟨S10x3, .f32⟩
  | 13 => ⟨S10x32x3, .f32⟩
  | 14 => ⟨S10x3, .f32⟩
  | 15 => ⟨S3, .i32⟩
  | 16 => ⟨S_, .i32⟩
  | 17 => ⟨S3, .i32⟩
  | 18 => ⟨S3, .i32⟩
  | 19 => ⟨S32, .i32⟩
  | 20 => ⟨S_, .i32⟩
  | 21 => ⟨S32, .i32⟩
  | 22 => ⟨S32, .i32⟩
  | 23 => ⟨S_, .i32⟩
  | 24 => ⟨S32, .i32⟩
  | 25 => ⟨S32, .i32⟩
  | 26 => ⟨S1x32, .i32⟩
  | 27 => ⟨S3x1, .i32⟩
  | 28 => ⟨S3x32, .i32⟩
  | 29 => ⟨S3x32, .i32⟩
  | 30 => ⟨S3x32, .i1⟩
  | 31 => ⟨S3x32, .f32⟩
  | 32 => ⟨S1x3, .i32⟩
  | 33 => ⟨S32x1, .i32⟩
  | 34 => ⟨S32x3, .i32⟩
  | 35 => ⟨S32x3, .i32⟩
  | 36 => ⟨S32x3, .i1⟩
  | 37 => ⟨S32x3, .f32⟩
  | 38 => ⟨S2000000x64, .f32⟩
  | 39 => ⟨S1x64, .f32⟩
  | 40 => ⟨S2000000x64, .f32⟩
  | 41 => ⟨S2000000x64, .f32⟩
  | 42 => ⟨S_, .f32⟩
  | 43 => ⟨S2000000x64, .f32⟩
  | 44 => ⟨S2000000x64, .f32⟩
  | 45 => ⟨S2000000x32, .f32⟩
  | 46 => ⟨S1x32, .f32⟩
  | 47 => ⟨S2000000x32, .f32⟩
  | 48 => ⟨S2000000x32, .f32⟩
  | 49 => ⟨S_, .f32⟩
  | 50 => ⟨S2000000x32, .f32⟩
  | 51 => ⟨S2000000x32, .f32⟩
  | 52 => ⟨S2000000x8, .f32⟩
  | 53 => ⟨S1x8, .f32⟩
  | 54 => ⟨S2000000x8, .f32⟩
  | 55 => ⟨S2000000x8, .f32⟩
  | 56 => ⟨S2000000x3, .f32⟩
  | 57 => ⟨S1x3, .f32⟩
  | 58 => ⟨S2000000x3, .f32⟩
  | 59 => ⟨S2000000x3, .f32⟩
  | 60 => ⟨S1x3x32, .f32⟩
  | 61 => ⟨S3x32, .f32⟩
  | 62 => ⟨S3x32, .f32⟩
  | 63 => ⟨S2000000x32, .f32⟩
  | 64 => ⟨S1x32, .f32⟩
  | 65 => ⟨S32, .f32⟩
  | 66 => ⟨S1x32, .f32⟩
  | 67 => ⟨S2000000x32, .f32⟩
  | 68 => ⟨S2000000x32, .f32⟩
  | 69 => ⟨S_, .f32⟩
  | 70 => ⟨S2000000x32, .f32⟩
  | 71 => ⟨S2000000x32, .f32⟩
  | 72 => ⟨S1x32x3, .f32⟩
  | 73 => ⟨S32x3, .f32⟩
  | 74 => ⟨S32x3, .f32⟩
  | 75 => ⟨S2000000x3, .f32⟩
  | 76 => ⟨S1x3, .f32⟩
  | 77 => ⟨S3, .f32⟩
  | 78 => ⟨S1x3, .f32⟩
  | 79 => ⟨S2000000x3, .f32⟩
  | 80 => ⟨S2000000x3, .f32⟩
  | 81 => ⟨S1x32x3, .f32⟩
  | 82 => ⟨S32x3, .f32⟩
  | 83 => ⟨S32x3, .f32⟩
  | 84 => ⟨S2000000x3, .f32⟩
  | 85 => ⟨S1x3, .f32⟩
  | 86 => ⟨S3, .f32⟩
  | 87 => ⟨S1x3, .f32⟩
  | 88 => ⟨S2000000x3, .f32⟩
  | 89 => ⟨S2000000x3, .f32⟩
  | 90 => ⟨S2000000x3, .f32⟩
  | 91 => ⟨S2000000x3, .f32⟩
  | 92 => ⟨S2000000x3, .f32⟩
  | 93 => ⟨S2000000x3, .f32⟩
  | 94 => ⟨S2000000x3, .f32⟩
  | 95 => ⟨S2000000x3, .f32⟩
  | 96 => ⟨S1x3x32, .f32⟩
  | 97 => ⟨S3x32, .f32⟩
  | 98 => ⟨S3x32, .f32⟩
  | 99 => ⟨S2000000x32, .f32⟩
  | 100 => ⟨S1x32, .f32⟩
  | 101 => ⟨S32, .f32⟩
  | 102 => ⟨S1x32, .f32⟩
  | 103 => ⟨S2000000x32, .f32⟩
  | 104 => ⟨S2000000x32, .f32⟩
  | 105 => ⟨S_, .f32⟩
  | 106 => ⟨S2000000x32, .f32⟩
  | 107 => ⟨S2000000x32, .f32⟩
  | 108 => ⟨S1x32x3, .f32⟩
  | 109 => ⟨S32x3, .f32⟩
  | 110 => ⟨S32x3, .f32⟩
  | 111 => ⟨S2000000x3, .f32⟩
  | 112 => ⟨S1x3, .f32⟩
  | 113 => ⟨S3, .f32⟩
  | 114 => ⟨S1x3, .f32⟩
  | 115 => ⟨S2000000x3, .f32⟩
  | 116 => ⟨S2000000x3, .f32⟩
  | 117 => ⟨S1x32x3, .f32⟩
  | 118 => ⟨S32x3, .f32⟩
  | 119 => ⟨S32x3, .f32⟩
  | 120 => ⟨S2000000x3, .f32⟩
  | 121 => ⟨S1x3, .f32⟩
  | 122 => ⟨S3, .f32⟩
  | 123 => ⟨S1x3, .f32⟩
  | 124 => ⟨S2000000x3, .f32⟩
  | 125 => ⟨S2000000x3, .f32⟩
  | 126 => ⟨S2000000x3, .f32⟩
  | 127 => ⟨S2000000x3, .f32⟩
  | _ => ⟨S2000000x4, .f32⟩

abbrev hbmTy0_1 (i : Nat) : BufTy := match i % 128 with
  | 0 => ⟨S2000000x3, .f32⟩
  | 1 => ⟨S2000000x3, .f32⟩
  | 2 => ⟨S2000000x3, .f32⟩
  | 3 => ⟨S2000000x3, .f32⟩
  | 4 => ⟨S1x3x32, .f32⟩
  | 5 => ⟨S3x32, .f32⟩
  | 6 => ⟨S3x32, .f32⟩
  | 7 => ⟨S2000000x32, .f32⟩
  | 8 => ⟨S1x32, .f32⟩
  | 9 => ⟨S32, .f32⟩
  | 10 => ⟨S1x32, .f32⟩
  | 11 => ⟨S2000000x32, .f32⟩
  | 12 => ⟨S2000000x32, .f32⟩
  | 13 => ⟨S_, .f32⟩
  | 14 => ⟨S2000000x32, .f32⟩
  | 15 => ⟨S2000000x32, .f32⟩
  | 16 => ⟨S1x32x3, .f32⟩
  | 17 => ⟨S32x3, .f32⟩
  | 18 => ⟨S32x3, .f32⟩
  | 19 => ⟨S2000000x3, .f32⟩
  | 20 => ⟨S1x3, .f32⟩
  | 21 => ⟨S3, .f32⟩
  | 22 => ⟨S1x3, .f32⟩
  | 23 => ⟨S2000000x3, .f32⟩
  | 24 => ⟨S2000000x3, .f32⟩
  | 25 => ⟨S1x32x3, .f32⟩
  | 26 => ⟨S32x3, .f32⟩
  | 27 => ⟨S32x3, .f32⟩
  | 28 => ⟨S2000000x3, .f32⟩
  | 29 => ⟨S1x3, .f32⟩
  | 30 => ⟨S3, .f32⟩
  | 31 => ⟨S1x3, .f32⟩
  | 32 => ⟨S2000000x3, .f32⟩
  | 33 => ⟨S2000000x3, .f32⟩
  | 34 => ⟨S2000000x3, .f32⟩
  | 35 => ⟨S2000000x3, .f32⟩
  | 36 => ⟨S2000000x3, .f32⟩
  | 37 => ⟨S2000000x3, .f32⟩
  | 38 => ⟨S2000000x3, .f32⟩
  | 39 => ⟨S2000000x3, .f32⟩
  | 40 => ⟨S1x3x32, .f32⟩
  | 41 => ⟨S3x32, .f32⟩
  | 42 => ⟨S3x32, .f32⟩
  | 43 => ⟨S2000000x32, .f32⟩
  | 44 => ⟨S1x32, .f32⟩
  | 45 => ⟨S32, .f32⟩
  | 46 => ⟨S1x32, .f32⟩
  | 47 => ⟨S2000000x32, .f32⟩
  | 48 => ⟨S2000000x32, .f32⟩
  | 49 => ⟨S_, .f32⟩
  | 50 => ⟨S2000000x32, .f32⟩
  | 51 => ⟨S2000000x32, .f32⟩
  | 52 => ⟨S1x32x3, .f32⟩
  | 53 => ⟨S32x3, .f32⟩
  | 54 => ⟨S32x3, .f32⟩
  | 55 => ⟨S2000000x3, .f32⟩
  | 56 => ⟨S1x3, .f32⟩
  | 57 => ⟨S3, .f32⟩
  | 58 => ⟨S1x3, .f32⟩
  | 59 => ⟨S2000000x3, .f32⟩
  | 60 => ⟨S2000000x3, .f32⟩
  | 61 => ⟨S1x32x3, .f32⟩
  | 62 => ⟨S32x3, .f32⟩
  | 63 => ⟨S32x3, .f32⟩
  | 64 => ⟨S2000000x3, .f32⟩
  | 65 => ⟨S1x3, .f32⟩
  | 66 => ⟨S3, .f32⟩
  | 67 => ⟨S1x3, .f32⟩
  | 68 => ⟨S2000000x3, .f32⟩
  | 69 => ⟨S2000000x3, .f32⟩
  | 70 => ⟨S2000000x3, .f32⟩
  | 71 => ⟨S2000000x3, .f32⟩
  | 72 => ⟨S2000000x3, .f32⟩
  | 73 => ⟨S2000000x3, .f32⟩
  | 74 => ⟨S2000000x3, .f32⟩
  | 75 => ⟨S2000000x3, .f32⟩
  | 76 => ⟨S1x3x32, .f32⟩
  | 77 => ⟨S3x32, .f32⟩
  | 78 => ⟨S3x32, .f32⟩
  | 79 => ⟨S2000000x32, .f32⟩
  | 80 => ⟨S1x32, .f32⟩
  | 81 => ⟨S32, .f32⟩
  | 82 => ⟨S1x32, .f32⟩
  | 83 => ⟨S2000000x32, .f32⟩
  | 84 => ⟨S2000000x32, .f32⟩
  | 85 => ⟨S_, .f32⟩
  | 86 => ⟨S2000000x32, .f32⟩
  | 87 => ⟨S2000000x32, .f32⟩
  | 88 => ⟨S1x32x3, .f32⟩
  | 89 => ⟨S32x3, .f32⟩
  | 90 => ⟨S32x3, .f32⟩
  | 91 => ⟨S2000000x3, .f32⟩
  | 92 => ⟨S1x3, .f32⟩
  | 93 => ⟨S3, .f32⟩
  | 94 => ⟨S1x3, .f32⟩
  | 95 => ⟨S2000000x3, .f32⟩
  | 96 => ⟨S2000000x3, .f32⟩
  | 97 => ⟨S1x32x3, .f32⟩
  | 98 => ⟨S32x3, .f32⟩
  | 99 => ⟨S32x3, .f32⟩
  | 100 => ⟨S2000000x3, .f32⟩
  | 101 => ⟨S1x3, .f32⟩
  | 102 => ⟨S3, .f32⟩
  | 103 => ⟨S1x3, .f32⟩
  | 104 => ⟨S2000000x3, .f32⟩
  | 105 => ⟨S2000000x3, .f32⟩
  | 106 => ⟨S2000000x3, .f32⟩
  | 107 => ⟨S2000000x3, .f32⟩
  | 108 => ⟨S2000000x3, .f32⟩
  | 109 => ⟨S2000000x3, .f32⟩
  | 110 => ⟨S2000000x3, .f32⟩
  | 111 => ⟨S2000000x3, .f32⟩
  | 112 => ⟨S1x3x32, .f32⟩
  | 113 => ⟨S3x32, .f32⟩
  | 114 => ⟨S3x32, .f32⟩
  | 115 => ⟨S2000000x32, .f32⟩
  | 116 => ⟨S1x32, .f32⟩
  | 117 => ⟨S32, .f32⟩
  | 118 => ⟨S1x32, .f32⟩
  | 119 => ⟨S2000000x32, .f32⟩
  | 120 => ⟨S2000000x32, .f32⟩
  | 121 => ⟨S_, .f32⟩
  | 122 => ⟨S2000000x32, .f32⟩
  | 123 => ⟨S2000000x32, .f32⟩
  | 124 => ⟨S1x32x3, .f32⟩
  | 125 => ⟨S32x3, .f32⟩
  | 126 => ⟨S32x3, .f32⟩
  | 127 => ⟨S2000000x3, .f32⟩
  | _ => ⟨S2000000x4, .f32⟩

abbrev hbmTy0_2 (i : Nat) : BufTy := match i % 128 with
  | 0 => ⟨S1x3, .f32⟩
  | 1 => ⟨S3, .f32⟩
  | 2 => ⟨S1x3, .f32⟩
  | 3 => ⟨S2000000x3, .f32⟩
  | 4 => ⟨S2000000x3, .f32⟩
  | 5 => ⟨S1x32x3, .f32⟩
  | 6 => ⟨S32x3, .f32⟩
  | 7 => ⟨S32x3, .f32⟩
  | 8 => ⟨S2000000x3, .f32⟩
  | 9 => ⟨S1x3, .f32⟩
  | 10 => ⟨S3, .f32⟩
  | 11 => ⟨S1x3, .f32⟩
  | 12 => ⟨S2000000x3, .f32⟩
  | 13 => ⟨S2000000x3, .f32⟩
  | 14 => ⟨S2000000x3, .f32⟩
  | 15 => ⟨S2000000x3, .f32⟩
  | 16 => ⟨S2000000x3, .f32⟩
  | 17 => ⟨S2000000x3, .f32⟩
  | 18 => ⟨S2000000x3, .f32⟩
  | 19 => ⟨S2000000x3, .f32⟩
  | 20 => ⟨S1x3x32, .f32⟩
  | 21 => ⟨S3x32, .f32⟩
  | 22 => ⟨S3x32, .f32⟩
  | 23 => ⟨S2000000x32, .f32⟩
  | 24 => ⟨S1x32, .f32⟩
  | 25 => ⟨S32, .f32⟩
  | 26 => ⟨S1x32, .f32⟩
  | 27 => ⟨S2000000x32, .f32⟩
  | 28 => ⟨S2000000x32, .f32⟩
  | 29 => ⟨S_, .f32⟩
  | 30 => ⟨S2000000x32, .f32⟩
  | 31 => ⟨S2000000x32, .f32⟩
  | 32 => ⟨S1x32x3, .f32⟩
  | 33 => ⟨S32x3, .f32⟩
  | 34 => ⟨S32x3, .f32⟩
  | 35 => ⟨S2000000x3, .f32⟩
  | 36 => ⟨S1x3, .f32⟩
  | 37 => ⟨S3, .f32⟩
  | 38 => ⟨S1x3, .f32⟩
  | 39 => ⟨S2000000x3, .f32⟩
  | 40 => ⟨S2000000x3, .f32⟩
  | 41 => ⟨S1x32x3, .f32⟩
  | 42 => ⟨S32x3, .f32⟩
  | 43 => ⟨S32x3, .f32⟩
  | 44 => ⟨S2000000x3, .f32⟩
  | 45 => ⟨S1x3, .f32⟩
  | 46 => ⟨S3, .f32⟩
  | 47 => ⟨S1x3, .f32⟩
  | 48 => ⟨S2000000x3, .f32⟩
  | 49 => ⟨S2000000x3, .f32⟩
  | 50 => ⟨S2000000x3, .f32⟩
  | 51 => ⟨S2000000x3, .f32⟩
  | 52 => ⟨S2000000x3, .f32⟩
  | 53 => ⟨S2000000x3, .f32⟩
  | 54 => ⟨S2000000x3, .f32⟩
  | 55 => ⟨S2000000x3, .f32⟩
  | 56 => ⟨S1x3x32, .f32⟩
  | 57 => ⟨S3x32, .f32⟩
  | 58 => ⟨S3x32, .f32⟩
  | 59 => ⟨S2000000x32, .f32⟩
  | 60 => ⟨S1x32, .f32⟩
  | 61 => ⟨S32, .f32⟩
  | 62 => ⟨S1x32, .f32⟩
  | 63 => ⟨S2000000x32, .f32⟩
  | 64 => ⟨S2000000x32, .f32⟩
  | 65 => ⟨S_, .f32⟩
  | 66 => ⟨S2000000x32, .f32⟩
  | 67 => ⟨S2000000x32, .f32⟩
  | 68 => ⟨S1x32x3, .f32⟩
  | 69 => ⟨S32x3, .f32⟩
  | 70 => ⟨S32x3, .f32⟩
  | 71 => ⟨S2000000x3, .f32⟩
  | 72 => ⟨S1x3, .f32⟩
  | 73 => ⟨S3, .f32⟩
  | 74 => ⟨S1x3, .f32⟩
  | 75 => ⟨S2000000x3, .f32⟩
  | 76 => ⟨S2000000x3, .f32⟩
  | 77 => ⟨S1x32x3, .f32⟩
  | 78 => ⟨S32x3, .f32⟩
  | 79 => ⟨S32x3, .f32⟩
  | 80 => ⟨S2000000x3, .f32⟩
  | 81 => ⟨S1x3, .f32⟩
  | 82 => ⟨S3, .f32⟩
  | 83 => ⟨S1x3, .f32⟩
  | 84 => ⟨S2000000x3, .f32⟩
  | 85 => ⟨S2000000x3, .f32⟩
  | 86 => ⟨S2000000x3, .f32⟩
  | 87 => ⟨S2000000x3, .f32⟩
  | 88 => ⟨S2000000x3, .f32⟩
  | 89 => ⟨S2000000x3, .f32⟩
  | 90 => ⟨S2000000x3, .f32⟩
  | 91 => ⟨S2000000x3, .f32⟩
  | 92 => ⟨S1x3x32, .f32⟩
  | 93 => ⟨S3x32, .f32⟩
  | 94 => ⟨S3x32, .f32⟩
  | 95 => ⟨S2000000x32, .f32⟩
  | 96 => ⟨S1x32, .f32⟩
  | 97 => ⟨S32, .f32⟩
  | 98 => ⟨S1x32, .f32⟩
  | 99 => ⟨S2000000x32, .f32⟩
  | 100 => ⟨S2000000x32, .f32⟩
  | 101 => ⟨S_, .f32⟩
  | 102 => ⟨S2000000x32, .f32⟩
  | 103 => ⟨S2000000x32, .f32⟩
  | 104 => ⟨S1x32x3, .f32⟩
  | 105 => ⟨S32x3, .f32⟩
  | 106 => ⟨S32x3, .f32⟩
  | 107 => ⟨S2000000x3, .f32⟩
  | 108 => ⟨S1x3, .f32⟩
  | 109 => ⟨S3, .f32⟩
  | 110 => ⟨S1x3, .f32⟩
  | 111 => ⟨S2000000x3, .f32⟩
  | 112 => ⟨S2000000x3, .f32⟩
  | 113 => ⟨S1x32x3, .f32⟩
  | 114 => ⟨S32x3, .f32⟩
  | 115 => ⟨S32x3, .f32⟩
  | 116 => ⟨S2000000x3, .f32⟩
  | 117 => ⟨S1x3, .f32⟩
  | 118 => ⟨S3, .f32⟩
  | 119 => ⟨S1x3, .f32⟩
  | 120 => ⟨S2000000x3, .f32⟩
  | 121 => ⟨S2000000x3, .f32⟩
  | 122 => ⟨S2000000x3, .f32⟩
  | 123 => ⟨S2000000x3, .f32⟩
  | 124 => ⟨S2000000x3, .f32⟩
  | 125 => ⟨S2000000x3, .f32⟩
  | 126 => ⟨S2000000x3, .f32⟩
  | 127 => ⟨S2000000x3, .f32⟩
  | _ => ⟨S2000000x4, .f32⟩

abbrev hbmTy0_3 (i : Nat) : BufTy := match i % 128 with
  | 0 => ⟨S1x3x32, .f32⟩
  | 1 => ⟨S3x32, .f32⟩
  | 2 => ⟨S3x32, .f32⟩
  | 3 => ⟨S2000000x32, .f32⟩
  | 4 => ⟨S1x32, .f32⟩
  | 5 => ⟨S32, .f32⟩
  | 6 => ⟨S1x32, .f32⟩
  | 7 => ⟨S2000000x32, .f32⟩
  | 8 => ⟨S2000000x32, .f32⟩
  | 9 => ⟨S_, .f32⟩
  | 10 => ⟨S2000000x32, .f32⟩
  | 11 => ⟨S2000000x32, .f32⟩
  | 12 => ⟨S1x32x3, .f32⟩
  | 13 => ⟨S32x3, .f32⟩
  | 14 => ⟨S32x3, .f32⟩
  | 15 => ⟨S2000000x3, .f32⟩
  | 16 => ⟨S1x3, .f32⟩
  | 17 => ⟨S3, .f32⟩
  | 18 => ⟨S1x3, .f32⟩
  | 19 => ⟨S2000000x3, .f32⟩
  | 20 => ⟨S2000000x3, .f32⟩
  | 21 => ⟨S1x32x3, .f32⟩
  | 22 => ⟨S32x3, .f32⟩
  | 23 => ⟨S32x3, .f32⟩
  | 24 => ⟨S2000000x3, .f32⟩
  | 25 => ⟨S1x3, .f32⟩
  | 26 => ⟨S3, .f32⟩
  | 27 => ⟨S1x3, .f32⟩
  | 28 => ⟨S2000000x3, .f32⟩
  | 29 => ⟨S2000000x3, .f32⟩
  | 30 => ⟨S2000000x3, .f32⟩
  | 31 => ⟨S2000000x3, .f32⟩
  | 32 => ⟨S2000000x3, .f32⟩
  | 33 => ⟨S2000000x3, .f32⟩
  | 34 => ⟨S2000000x3, .f32⟩
  | 35 => ⟨S2000000x3, .f32⟩
  | 36 => ⟨S2000000x3, .f32⟩
  | 37 => ⟨S2000000x3, .f32⟩
  | 38 => ⟨S_, .f32⟩
  | 39 => ⟨S2000000x3, .f32⟩
  | 40 => ⟨S2000000x3, .f32⟩
  | 41 => ⟨S_, .f32⟩
  | 42 => ⟨S2000000x3, .f32⟩
  | 43 => ⟨S2000000x3, .f32⟩
  | 44 => ⟨S2000000x1, .f32⟩
  | 45 => ⟨S2000000, .f32⟩
  | 46 => ⟨S_, .f32⟩
  | 47 => ⟨S2000000, .f32⟩
  | 48 => ⟨S2000000, .f32⟩
  | 49 => ⟨S2000000x1, .f32⟩
  | 50 => ⟨S2000000, .f32⟩
  | 51 => ⟨S2000000x1, .f32⟩
  | 52 => ⟨S2000000, .f32⟩
  | 53 => ⟨S2000000x1, .f32⟩
  | 54 => ⟨S2000000x1, .f32⟩
  | 55 => ⟨S2000000x1, .f32⟩
  | 56 => ⟨S2000000x3, .f32⟩
  | _ => ⟨S2000000x4, .f32⟩

abbrev hbmTy (i : Nat) : BufTy := match i / 128 with
  | 0 => hbmTy0_0 i
  | 1 => hbmTy0_1 i
  | 2 => hbmTy0_2 i
  | 3 => hbmTy0_3 i
  | _ => ⟨S2000000x4, .f32⟩

abbrev bufTy : (tb : Table) → Fin (tcTables nBuf tb) → BufTy
  | .hbm, ⟨i, _⟩ => hbmTy i
  | _, _ => ⟨S2000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_c_1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call0_cst : Ref sig .tc := ⟨.hbm, 42, rfl⟩
abbrev main_call0_v0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call1_cst : Ref sig .tc := ⟨.hbm, 49, rfl⟩
abbrev main_call1_v0 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call2_cst : Ref sig .tc := ⟨.hbm, 69, rfl⟩
abbrev main_call2_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_call4_cst : Ref sig .tc := ⟨.hbm, 105, rfl⟩
abbrev main_call4_v0 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_call6_cst : Ref sig .tc := ⟨.hbm, 141, rfl⟩
abbrev main_call6_v0 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_call8_cst : Ref sig .tc := ⟨.hbm, 177, rfl⟩
abbrev main_call8_v0 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_call10_cst : Ref sig .tc := ⟨.hbm, 213, rfl⟩
abbrev main_call10_v0 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_v212 : Ref sig .tc := ⟨.hbm, 244, rfl⟩
abbrev main_v213 : Ref sig .tc := ⟨.hbm, 245, rfl⟩
abbrev main_v214 : Ref sig .tc := ⟨.hbm, 246, rfl⟩
abbrev main_v215 : Ref sig .tc := ⟨.hbm, 247, rfl⟩
abbrev main_v216 : Ref sig .tc := ⟨.hbm, 248, rfl⟩
abbrev main_call12_cst : Ref sig .tc := ⟨.hbm, 249, rfl⟩
abbrev main_call12_v0 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_v228 : Ref sig .tc := ⟨.hbm, 262, rfl⟩
abbrev main_v229 : Ref sig .tc := ⟨.hbm, 263, rfl⟩
abbrev main_v230 : Ref sig .tc := ⟨.hbm, 264, rfl⟩
abbrev main_v231 : Ref sig .tc := ⟨.hbm, 265, rfl⟩
abbrev main_v232 : Ref sig .tc := ⟨.hbm, 266, rfl⟩
abbrev main_v233 : Ref sig .tc := ⟨.hbm, 267, rfl⟩
abbrev main_v234 : Ref sig .tc := ⟨.hbm, 268, rfl⟩
abbrev main_v235 : Ref sig .tc := ⟨.hbm, 269, rfl⟩
abbrev main_v236 : Ref sig .tc := ⟨.hbm, 270, rfl⟩
abbrev main_v237 : Ref sig .tc := ⟨.hbm, 271, rfl⟩
abbrev main_v238 : Ref sig .tc := ⟨.hbm, 272, rfl⟩
abbrev main_v239 : Ref sig .tc := ⟨.hbm, 273, rfl⟩
abbrev main_v240 : Ref sig .tc := ⟨.hbm, 274, rfl⟩
abbrev main_v241 : Ref sig .tc := ⟨.hbm, 275, rfl⟩
abbrev main_v242 : Ref sig .tc := ⟨.hbm, 276, rfl⟩
abbrev main_v243 : Ref sig .tc := ⟨.hbm, 277, rfl⟩
abbrev main_v244 : Ref sig .tc := ⟨.hbm, 278, rfl⟩
abbrev main_v245 : Ref sig .tc := ⟨.hbm, 279, rfl⟩
abbrev main_v246 : Ref sig .tc := ⟨.hbm, 280, rfl⟩
abbrev main_v247 : Ref sig .tc := ⟨.hbm, 281, rfl⟩
abbrev main_v248 : Ref sig .tc := ⟨.hbm, 282, rfl⟩
abbrev main_v249 : Ref sig .tc := ⟨.hbm, 283, rfl⟩
abbrev main_v250 : Ref sig .tc := ⟨.hbm, 284, rfl⟩
abbrev main_call14_cst : Ref sig .tc := ⟨.hbm, 285, rfl⟩
abbrev main_call14_v0 : Ref sig .tc := ⟨.hbm, 286, rfl⟩
abbrev main_v251 : Ref sig .tc := ⟨.hbm, 287, rfl⟩
abbrev main_v252 : Ref sig .tc := ⟨.hbm, 288, rfl⟩
abbrev main_v253 : Ref sig .tc := ⟨.hbm, 289, rfl⟩
abbrev main_v254 : Ref sig .tc := ⟨.hbm, 290, rfl⟩
abbrev main_v255 : Ref sig .tc := ⟨.hbm, 291, rfl⟩
abbrev main_v256 : Ref sig .tc := ⟨.hbm, 292, rfl⟩
abbrev main_v257 : Ref sig .tc := ⟨.hbm, 293, rfl⟩
abbrev main_v258 : Ref sig .tc := ⟨.hbm, 294, rfl⟩
abbrev main_v259 : Ref sig .tc := ⟨.hbm, 295, rfl⟩
abbrev main_v260 : Ref sig .tc := ⟨.hbm, 296, rfl⟩
abbrev main_v261 : Ref sig .tc := ⟨.hbm, 297, rfl⟩
abbrev main_v262 : Ref sig .tc := ⟨.hbm, 298, rfl⟩
abbrev main_v263 : Ref sig .tc := ⟨.hbm, 299, rfl⟩
abbrev main_v264 : Ref sig .tc := ⟨.hbm, 300, rfl⟩
abbrev main_v265 : Ref sig .tc := ⟨.hbm, 301, rfl⟩
abbrev main_v266 : Ref sig .tc := ⟨.hbm, 302, rfl⟩
abbrev main_v267 : Ref sig .tc := ⟨.hbm, 303, rfl⟩
abbrev main_v268 : Ref sig .tc := ⟨.hbm, 304, rfl⟩
abbrev main_v269 : Ref sig .tc := ⟨.hbm, 305, rfl⟩
abbrev main_v270 : Ref sig .tc := ⟨.hbm, 306, rfl⟩
abbrev main_v271 : Ref sig .tc := ⟨.hbm, 307, rfl⟩
abbrev main_v272 : Ref sig .tc := ⟨.hbm, 308, rfl⟩
abbrev main_v273 : Ref sig .tc := ⟨.hbm, 309, rfl⟩
abbrev main_v274 : Ref sig .tc := ⟨.hbm, 310, rfl⟩
abbrev main_v275 : Ref sig .tc := ⟨.hbm, 311, rfl⟩
abbrev main_v276 : Ref sig .tc := ⟨.hbm, 312, rfl⟩
abbrev main_v277 : Ref sig .tc := ⟨.hbm, 313, rfl⟩
abbrev main_v278 : Ref sig .tc := ⟨.hbm, 314, rfl⟩
abbrev main_v279 : Ref sig .tc := ⟨.hbm, 315, rfl⟩
abbrev main_v280 : Ref sig .tc := ⟨.hbm, 316, rfl⟩
abbrev main_v281 : Ref sig .tc := ⟨.hbm, 317, rfl⟩
abbrev main_v282 : Ref sig .tc := ⟨.hbm, 318, rfl⟩
abbrev main_v283 : Ref sig .tc := ⟨.hbm, 319, rfl⟩
abbrev main_v284 : Ref sig .tc := ⟨.hbm, 320, rfl⟩
abbrev main_call16_cst : Ref sig .tc := ⟨.hbm, 321, rfl⟩
abbrev main_call16_v0 : Ref sig .tc := ⟨.hbm, 322, rfl⟩
abbrev main_v285 : Ref sig .tc := ⟨.hbm, 323, rfl⟩
abbrev main_v286 : Ref sig .tc := ⟨.hbm, 324, rfl⟩
abbrev main_v287 : Ref sig .tc := ⟨.hbm, 325, rfl⟩
abbrev main_v288 : Ref sig .tc := ⟨.hbm, 326, rfl⟩
abbrev main_v289 : Ref sig .tc := ⟨.hbm, 327, rfl⟩
abbrev main_v290 : Ref sig .tc := ⟨.hbm, 328, rfl⟩
abbrev main_v291 : Ref sig .tc := ⟨.hbm, 329, rfl⟩
abbrev main_v292 : Ref sig .tc := ⟨.hbm, 330, rfl⟩
abbrev main_v293 : Ref sig .tc := ⟨.hbm, 331, rfl⟩
abbrev main_v294 : Ref sig .tc := ⟨.hbm, 332, rfl⟩
abbrev main_v295 : Ref sig .tc := ⟨.hbm, 333, rfl⟩
abbrev main_v296 : Ref sig .tc := ⟨.hbm, 334, rfl⟩
abbrev main_v297 : Ref sig .tc := ⟨.hbm, 335, rfl⟩
abbrev main_v298 : Ref sig .tc := ⟨.hbm, 336, rfl⟩
abbrev main_v299 : Ref sig .tc := ⟨.hbm, 337, rfl⟩
abbrev main_v300 : Ref sig .tc := ⟨.hbm, 338, rfl⟩
abbrev main_v301 : Ref sig .tc := ⟨.hbm, 339, rfl⟩
abbrev main_v302 : Ref sig .tc := ⟨.hbm, 340, rfl⟩
abbrev main_v303 : Ref sig .tc := ⟨.hbm, 341, rfl⟩
abbrev main_v304 : Ref sig .tc := ⟨.hbm, 342, rfl⟩
abbrev main_v305 : Ref sig .tc := ⟨.hbm, 343, rfl⟩
abbrev main_v306 : Ref sig .tc := ⟨.hbm, 344, rfl⟩
abbrev main_v307 : Ref sig .tc := ⟨.hbm, 345, rfl⟩
abbrev main_v308 : Ref sig .tc := ⟨.hbm, 346, rfl⟩
abbrev main_v309 : Ref sig .tc := ⟨.hbm, 347, rfl⟩
abbrev main_v310 : Ref sig .tc := ⟨.hbm, 348, rfl⟩
abbrev main_v311 : Ref sig .tc := ⟨.hbm, 349, rfl⟩
abbrev main_v312 : Ref sig .tc := ⟨.hbm, 350, rfl⟩
abbrev main_v313 : Ref sig .tc := ⟨.hbm, 351, rfl⟩
abbrev main_v314 : Ref sig .tc := ⟨.hbm, 352, rfl⟩
abbrev main_v315 : Ref sig .tc := ⟨.hbm, 353, rfl⟩
abbrev main_v316 : Ref sig .tc := ⟨.hbm, 354, rfl⟩
abbrev main_v317 : Ref sig .tc := ⟨.hbm, 355, rfl⟩
abbrev main_v318 : Ref sig .tc := ⟨.hbm, 356, rfl⟩
abbrev main_call18_cst : Ref sig .tc := ⟨.hbm, 357, rfl⟩
abbrev main_call18_v0 : Ref sig .tc := ⟨.hbm, 358, rfl⟩
abbrev main_v319 : Ref sig .tc := ⟨.hbm, 359, rfl⟩
abbrev main_v320 : Ref sig .tc := ⟨.hbm, 360, rfl⟩
abbrev main_v321 : Ref sig .tc := ⟨.hbm, 361, rfl⟩
abbrev main_v322 : Ref sig .tc := ⟨.hbm, 362, rfl⟩
abbrev main_v323 : Ref sig .tc := ⟨.hbm, 363, rfl⟩
abbrev main_v324 : Ref sig .tc := ⟨.hbm, 364, rfl⟩
abbrev main_v325 : Ref sig .tc := ⟨.hbm, 365, rfl⟩
abbrev main_v326 : Ref sig .tc := ⟨.hbm, 366, rfl⟩
abbrev main_v327 : Ref sig .tc := ⟨.hbm, 367, rfl⟩
abbrev main_v328 : Ref sig .tc := ⟨.hbm, 368, rfl⟩
abbrev main_v329 : Ref sig .tc := ⟨.hbm, 369, rfl⟩
abbrev main_v330 : Ref sig .tc := ⟨.hbm, 370, rfl⟩
abbrev main_v331 : Ref sig .tc := ⟨.hbm, 371, rfl⟩
abbrev main_v332 : Ref sig .tc := ⟨.hbm, 372, rfl⟩
abbrev main_v333 : Ref sig .tc := ⟨.hbm, 373, rfl⟩
abbrev main_v334 : Ref sig .tc := ⟨.hbm, 374, rfl⟩
abbrev main_v335 : Ref sig .tc := ⟨.hbm, 375, rfl⟩
abbrev main_v336 : Ref sig .tc := ⟨.hbm, 376, rfl⟩
abbrev main_v337 : Ref sig .tc := ⟨.hbm, 377, rfl⟩
abbrev main_v338 : Ref sig .tc := ⟨.hbm, 378, rfl⟩
abbrev main_v339 : Ref sig .tc := ⟨.hbm, 379, rfl⟩
abbrev main_v340 : Ref sig .tc := ⟨.hbm, 380, rfl⟩
abbrev main_v341 : Ref sig .tc := ⟨.hbm, 381, rfl⟩
abbrev main_v342 : Ref sig .tc := ⟨.hbm, 382, rfl⟩
abbrev main_v343 : Ref sig .tc := ⟨.hbm, 383, rfl⟩
abbrev main_v344 : Ref sig .tc := ⟨.hbm, 384, rfl⟩
abbrev main_v345 : Ref sig .tc := ⟨.hbm, 385, rfl⟩
abbrev main_v346 : Ref sig .tc := ⟨.hbm, 386, rfl⟩
abbrev main_v347 : Ref sig .tc := ⟨.hbm, 387, rfl⟩
abbrev main_v348 : Ref sig .tc := ⟨.hbm, 388, rfl⟩
abbrev main_v349 : Ref sig .tc := ⟨.hbm, 389, rfl⟩
abbrev main_v350 : Ref sig .tc := ⟨.hbm, 390, rfl⟩
abbrev main_v351 : Ref sig .tc := ⟨.hbm, 391, rfl⟩
abbrev main_v352 : Ref sig .tc := ⟨.hbm, 392, rfl⟩
abbrev main_call20_cst : Ref sig .tc := ⟨.hbm, 393, rfl⟩
abbrev main_call20_v0 : Ref sig .tc := ⟨.hbm, 394, rfl⟩
abbrev main_v353 : Ref sig .tc := ⟨.hbm, 395, rfl⟩
abbrev main_v354 : Ref sig .tc := ⟨.hbm, 396, rfl⟩
abbrev main_v355 : Ref sig .tc := ⟨.hbm, 397, rfl⟩
abbrev main_v356 : Ref sig .tc := ⟨.hbm, 398, rfl⟩
abbrev main_v357 : Ref sig .tc := ⟨.hbm, 399, rfl⟩
abbrev main_v358 : Ref sig .tc := ⟨.hbm, 400, rfl⟩
abbrev main_v359 : Ref sig .tc := ⟨.hbm, 401, rfl⟩
abbrev main_v360 : Ref sig .tc := ⟨.hbm, 402, rfl⟩
abbrev main_v361 : Ref sig .tc := ⟨.hbm, 403, rfl⟩
abbrev main_v362 : Ref sig .tc := ⟨.hbm, 404, rfl⟩
abbrev main_v363 : Ref sig .tc := ⟨.hbm, 405, rfl⟩
abbrev main_v364 : Ref sig .tc := ⟨.hbm, 406, rfl⟩
abbrev main_v365 : Ref sig .tc := ⟨.hbm, 407, rfl⟩
abbrev main_v366 : Ref sig .tc := ⟨.hbm, 408, rfl⟩
abbrev main_v367 : Ref sig .tc := ⟨.hbm, 409, rfl⟩
abbrev main_v368 : Ref sig .tc := ⟨.hbm, 410, rfl⟩
abbrev main_v369 : Ref sig .tc := ⟨.hbm, 411, rfl⟩
abbrev main_v370 : Ref sig .tc := ⟨.hbm, 412, rfl⟩
abbrev main_v371 : Ref sig .tc := ⟨.hbm, 413, rfl⟩
abbrev main_v372 : Ref sig .tc := ⟨.hbm, 414, rfl⟩
abbrev main_v373 : Ref sig .tc := ⟨.hbm, 415, rfl⟩
abbrev main_v374 : Ref sig .tc := ⟨.hbm, 416, rfl⟩
abbrev main_v375 : Ref sig .tc := ⟨.hbm, 417, rfl⟩
abbrev main_v376 : Ref sig .tc := ⟨.hbm, 418, rfl⟩
abbrev main_v377 : Ref sig .tc := ⟨.hbm, 419, rfl⟩
abbrev main_v378 : Ref sig .tc := ⟨.hbm, 420, rfl⟩
abbrev main_v379 : Ref sig .tc := ⟨.hbm, 421, rfl⟩
abbrev main_cst : Ref sig .tc := ⟨.hbm, 422, rfl⟩
abbrev main_v380 : Ref sig .tc := ⟨.hbm, 423, rfl⟩
abbrev main_v381 : Ref sig .tc := ⟨.hbm, 424, rfl⟩
abbrev main_cst_2 : Ref sig .tc := ⟨.hbm, 425, rfl⟩
abbrev main_v382 : Ref sig .tc := ⟨.hbm, 426, rfl⟩
abbrev main_v383 : Ref sig .tc := ⟨.hbm, 427, rfl⟩
abbrev main_v384 : Ref sig .tc := ⟨.hbm, 428, rfl⟩
abbrev main_v385 : Ref sig .tc := ⟨.hbm, 429, rfl⟩
abbrev main_cst_3 : Ref sig .tc := ⟨.hbm, 430, rfl⟩
abbrev main_v386 : Ref sig .tc := ⟨.hbm, 431, rfl⟩
abbrev main_v387 : Ref sig .tc := ⟨.hbm, 432, rfl⟩
abbrev main_v388 : Ref sig .tc := ⟨.hbm, 433, rfl⟩
abbrev main_v389 : Ref sig .tc := ⟨.hbm, 434, rfl⟩
abbrev main_v390 : Ref sig .tc := ⟨.hbm, 435, rfl⟩
abbrev main_v391 : Ref sig .tc := ⟨.hbm, 436, rfl⟩
abbrev main_v392 : Ref sig .tc := ⟨.hbm, 437, rfl⟩
abbrev main_v393 : Ref sig .tc := ⟨.hbm, 438, rfl⟩
abbrev main_v394 : Ref sig .tc := ⟨.hbm, 439, rfl⟩
abbrev main_v395 : Ref sig .tc := ⟨.hbm, 440, rfl⟩

abbrev nD : Nat := 1
abbrev τ : Topo := Topo.v7x

variable {F : FTy → Type} [FloatOps F]
-- ==== Proof.Spec.lean ====
/- The mathematics of one batch row, apart from any program: the encoder and the flow's layers over extended reals,
   written once in the reference's order and once in the kernel's, and the equalities between the two orders. -/
module

public import Idealize.ShloMosaic.PureOps.Ideal
public import Idealize.ShloMosaic.PureOps.Ideal.Laws

@[expose] public section

noncomputable section

open scoped BigOperators

namespace Cert.Proof.Spec

open Idealize.ShloMosaic

/-! ## The reference's order -/

/-- One layer's weights, the masks already multiplied in: `wh d j` from input `d` to hidden unit `j`, `wm` / `wa` from
    hidden unit `j` to the shift and the log-scale of output `d`, and the three biases. -/
structure Layer where
  wh : Fin 3 → Fin 32 → EReal
  bh : Fin 32 → EReal
  wm : Fin 32 → Fin 3 → EReal
  bm : Fin 3 → EReal
  wa : Fin 32 → Fin 3 → EReal
  ba : Fin 3 → EReal

/-- A layer's hidden units. -/
def Layer.hid (L : Layer) (x : Fin 3 → EReal) (j : Fin 32) : EReal := max (∑ d, x d * L.wh d j + L.bh j) 0

/-- A layer's affine step, before its outputs are reversed. -/
def Layer.step (L : Layer) (x : Fin 3 → EReal) (d : Fin 3) : EReal :=
  (x d - (∑ j, L.hid x j * L.wm j d + L.bm d)) * Ideal.exp (-(Ideal.tanh (∑ j, L.hid x j * L.wa j d + L.ba d)))

/-- A layer: the step, then the reversal of the three outputs. -/
def Layer.run (L : Layer) (x : Fin 3 → EReal) (d : Fin 3) : EReal := L.step x d.rev

/-- The ten layers. -/
def flow (L : Fin 10 → Layer) (x : Fin 3 → EReal) : Fin 3 → EReal :=
  (L 9).run ((L 8).run ((L 7).run ((L 6).run ((L 5).run ((L 4).run ((L 3).run ((L 2).run ((L 1).run ((L 0).run x)))))))))

/-! ## The kernel's order -/

/-- One layer's weights as the kernel is handed them: hidden units first, the shift's rows `0 … 2` and the log-scale's
    rows `8 … 10` of one matrix of sixteen rows. -/
structure KLayer where
  w : Fin 32 → Fin 3 → EReal
  b : Fin 32 → EReal
  m : Fin 16 → Fin 32 → EReal
  c : Fin 16 → EReal

/-- The row of the sixteen that holds the shift of output `d`. -/
def lo (d : Fin 3) : Fin 16 := ⟨d.val, by omega⟩
/-- The row of the sixteen that holds the log-scale of output `d`. -/
def hi (d : Fin 3) : Fin 16 := ⟨8 + d.val, by omega⟩

/-- The kernel's hidden units: two products, of inputs `p` and `q`. -/
def KLayer.hid (K : KLayer) (p q : Fin 3) (y : Fin 3 → EReal) (j : Fin 32) : EReal :=
  max (K.w j p * y p + K.w j q * y q + K.b j) 0

/-- One of the sixteen rows the kernel computes from the hidden units. -/
def KLayer.row (K : KLayer) (p q : Fin 3) (y : Fin 3 → EReal) (o : Fin 16) : EReal :=
  ∑ j, K.m o j * K.hid p q y j + K.c o

/-- The kernel's affine step. -/
def KLayer.step (K : KLayer) (p q : Fin 3) (y : Fin 3 → EReal) (d : Fin 3) : EReal :=
  (y d - K.row p q y (lo d)) * Ideal.exp (0 - Ideal.tanh (K.row p q y (hi d)))

/-- The kernel's ten layers: inputs 0 and 1 in the even ones, 1 and 2 in the odd ones. -/
def kflow (K : Fin 10 → KLayer) (y : Fin 3 → EReal) : Fin 3 → EReal :=
  (K 9).step 1 2 ((K 8).step 0 1 ((K 7).step 1 2 ((K 6).step 0 1 ((K 5).step 1 2 ((K 4).step 0 1 ((K 3).step 1 2
    ((K 2).step 0 1 ((K 1).step 1 2 ((K 0).step 0 1 y)))))))))

/-! ## The two orders agree -/

/-- The kernel's weights of an even layer are the reference's, transposed. -/
structure Even (K : KLayer) (L : Layer) : Prop where
  w : ∀ j d, K.w j d = L.wh d j
  b : ∀ j, K.b j = L.bh j
  m : ∀ d j, K.m (lo d) j = L.wm j d
  a : ∀ d j, K.m (hi d) j = L.wa j d
  c : ∀ d, K.c (lo d) = L.bm d
  e : ∀ d, K.c (hi d) = L.ba d

/-- The kernel's weights of an odd layer are the reference's, transposed and with the axis of three reversed. -/
structure Odd (K : KLayer) (L : Layer) : Prop where
  w : ∀ j d, K.w j d = L.wh d.rev j
  b : ∀ j, K.b j = L.bh j
  m : ∀ d j, K.m (lo d) j = L.wm j d.rev
  a : ∀ d j, K.m (hi d) j = L.wa j d.rev
  c : ∀ d, K.c (lo d) = L.bm d.rev
  e : ∀ d, K.c (hi d) = L.ba d.rev

/-- An even layer's step is the reference's: the third input's weights are zero (the mask), so its product adds zero,
    whatever the input. -/
theorem step_even {K : KLayer} {L : Layer} (h : Even K L) (hz : ∀ j, L.wh 2 j = 0) (x : Fin 3 → EReal) :
    K.step 0 1 x = L.step x := by
  have hh : ∀ j, K.hid 0 1 x j = L.hid x j := fun j => by
    simp only [KLayer.hid, Layer.hid, Fin.sum_univ_three, h.w, h.b, hz, mul_zero, add_zero]
    rw [mul_comm (x 0), mul_comm (x 1)]
  funext d
  simp only [KLayer.step, KLayer.row, Layer.step, hh, h.m, h.a, h.c, h.e, zero_sub]
  simp only [mul_comm]

/-- An odd layer's step on reversed inputs is the reference's step, reversed. -/
theorem step_odd {K : KLayer} {L : Layer} (h : Odd K L) (hz : ∀ j, L.wh 2 j = 0) (x : Fin 3 → EReal) :
    K.step 1 2 (fun d => x d.rev) = fun d => L.step x d.rev := by
  have r1 : (1 : Fin 3).rev = 1 := rfl
  have r2 : (2 : Fin 3).rev = 0 := rfl
  have hh : ∀ j, K.hid 1 2 (fun d => x d.rev) j = L.hid x j := fun j => by
    simp only [KLayer.hid, Layer.hid, Fin.sum_univ_three, h.w, h.b, hz, mul_zero, add_zero, r1, r2]
    rw [mul_comm (x 0), mul_comm (x 1), add_comm (L.wh 1 j * x 1)]
  funext d
  simp only [KLayer.step, KLayer.row, Layer.step, hh, h.m, h.a, h.c, h.e, zero_sub]
  simp only [mul_comm]

/-- Two layers, an even one and the odd one after it: the reversal that the reference makes after each is the reversal
    of the odd layer's weights. -/
theorem step_pair {K₀ K₁ : KLayer} {L₀ L₁ : Layer} (h₀ : Even K₀ L₀) (h₁ : Odd K₁ L₁) (z₀ : ∀ j, L₀.wh 2 j = 0)
    (z₁ : ∀ j, L₁.wh 2 j = 0) (x : Fin 3 → EReal) : K₁.step 1 2 (K₀.step 0 1 x) = L₁.run (L₀.run x) := by
  have e : K₀.step 0 1 x = fun d => L₀.run x d.rev := by
    rw [step_even h₀ z₀]; funext d; simp only [Layer.run, Fin.rev_rev]
  rw [e, step_odd h₁ z₁]
  rfl

/-- The ten layers agree. -/
theorem kflow_eq {K : Fin 10 → KLayer} {L : Fin 10 → Layer} (he : ∀ l : Fin 10, l.val % 2 = 0 → Even (K l) (L l))
    (ho : ∀ l : Fin 10, l.val % 2 = 1 → Odd (K l) (L l)) (hz : ∀ l j, (L l).wh 2 j = 0) (x : Fin 3 → EReal) :
    kflow K x = flow L x := by
  have p : ∀ a b : Fin 10, a.val % 2 = 0 → b.val % 2 = 1 → ∀ y, (K b).step 1 2 ((K a).step 0 1 y) = (L b).run ((L a).run y) :=
    fun a b ha hb y => step_pair (he a ha) (ho b hb) (hz a) (hz b) y
  unfold kflow flow
  rw [p 0 1 rfl rfl, p 2 3 rfl rfl, p 4 5 rfl rfl, p 6 7 rfl rfl, p 8 9 rfl rfl]

/-! ## The encoder -/

/-- The encoder's first hidden row, in the reference's order. -/
def enc1 (s : Fin 4 → EReal) (w1 : Fin 4 → Fin 64 → EReal) (b1 : Fin 64 → EReal) (j : Fin 64) : EReal :=
  max (∑ i, s i * w1 i j + b1 j) 0
/-- The encoder's second hidden row. -/
def enc2 (h : Fin 64 → EReal) (w2 : Fin 64 → Fin 32 → EReal) (b2 : Fin 32 → EReal) (k : Fin 32) : EReal :=
  max (∑ j, h j * w2 j k + b2 k) 0
/-- The context and its projection, one after the other. -/
def proj (h : Fin 32 → EReal) (w3 : Fin 32 → Fin 8 → EReal) (b3 : Fin 8 → EReal) (pw : Fin 8 → Fin 3 → EReal)
    (pb : Fin 3 → EReal) (d : Fin 3) : EReal :=
  ∑ c, (∑ k, h k * w3 k c + b3 c) * pw c d + pb d
/-- The two maps made one beforehand, as the kernel is handed them. -/
def kproj (h : Fin 32 → EReal) (w3 : Fin 32 → Fin 8 → EReal) (b3 : Fin 8 → EReal) (pw : Fin 8 → Fin 3 → EReal)
    (pb : Fin 3 → EReal) (d : Fin 3) : EReal :=
  ∑ k, (∑ c, w3 k c * pw c d) * h k + (∑ c, b3 c * pw c d + pb d)

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max_zero {x : EReal} (hx : IsReal x) : IsReal (max x 0) := by
  rcases max_choice x 0 with h | h <;> rw [h]
  · exact hx
  · exact ⟨0, rfl⟩

/-- A finite sum of real numbers, taken among the extended reals, is their sum. -/
theorem coe_sum {ι : Type} [Fintype ι] (f : ι → ℝ) : (∑ i, (f i : EReal)) = ((∑ i, f i : ℝ) : EReal) := by
  classical
  refine Finset.induction_on (Finset.univ : Finset ι) ?_ ?_
  · simp
  · intro a s ha ih
    rw [Finset.sum_insert ha, Finset.sum_insert ha, ih, EReal.coe_add]

theorem IsReal.sum {ι : Type} [Fintype ι] {f : ι → EReal} (h : ∀ i, IsReal (f i)) : IsReal (∑ i, f i) := by
  choose g hg using h
  exact ⟨∑ i, g i, by rw [← coe_sum]; exact Finset.sum_congr rfl fun i _ => hg i⟩

theorem enc1_real {s : Fin 4 → EReal} {w1 : Fin 4 → Fin 64 → EReal} {b1 : Fin 64 → EReal} (hs : ∀ i, IsReal (s i))
    (hw : ∀ i j, IsReal (w1 i j)) (hb : ∀ j, IsReal (b1 j)) (j : Fin 64) : IsReal (enc1 s w1 b1 j) :=
  ((IsReal.sum fun i => (hs i).mul (hw i j)).add (hb j)).max_zero
theorem enc2_real {h : Fin 64 → EReal} {w2 : Fin 64 → Fin 32 → EReal} {b2 : Fin 32 → EReal} (hh : ∀ i, IsReal (h i))
    (hw : ∀ i j, IsReal (w2 i j)) (hb : ∀ j, IsReal (b2 j)) (k : Fin 32) : IsReal (enc2 h w2 b2 k) :=
  ((IsReal.sum fun i => (hh i).mul (hw i k)).add (hb k)).max_zero

/-- Over real numbers the folded map is the two maps, one after the other; the projection's bias may be anything. -/
theorem kproj_eq {h : Fin 32 → EReal} {w3 : Fin 32 → Fin 8 → EReal} {b3 : Fin 8 → EReal} {pw : Fin 8 → Fin 3 → EReal}
    (pb : Fin 3 → EReal) (hh : ∀ k, IsReal (h k)) (hw : ∀ k c, IsReal (w3 k c)) (hb : ∀ c, IsReal (b3 c))
    (hp : ∀ c d, IsReal (pw c d)) (d : Fin 3) : kproj h w3 b3 pw pb d = proj h w3 b3 pw pb d := by
  choose h' hh using hh
  choose w' hw using hw
  choose b' hb using hb
  choose p' hp using hp
  simp only [kproj, proj, hh, hw, hb, hp, ← EReal.coe_mul, ← EReal.coe_add, coe_sum]
  rw [← add_assoc, ← EReal.coe_add]
  congr 2
  simp only [add_mul, Finset.sum_add_distrib, Finset.sum_mul]
  congr 1
  rw [Finset.sum_comm]
  exact Finset.sum_congr rfl fun c _ => Finset.sum_congr rfl fun k _ => by ring

/-! ## The result -/

/-- A row's result from the flow's outputs: the logistic function, the first scaled by `t`. -/
def out (t : EReal) (x : Fin 3 → EReal) (d : Fin 3) : EReal := Ideal.logistic (x d) * (if d = 0 then t else 1)

end Cert.Proof.Spec

end
-- ==== Proof.KernelHost.lean ====
/- The arrays the kernel's host code passes to the region, read at an element: the reversed and masked layer weights, the
   two fused products of the encoder, and the padded transposed rows. -/
module

public import proofs.«01_k».proof.Proof.Spec
public import proofs.«01_k».proof.Proof.Gen.KernelIdeal.Frame
public import Idealize.ShloMosaic.Lib.StableHlo.RunRead
public import Idealize.ShloMosaic.Lib.ValueIdx
public import Idealize.ShloMosaic.Lib.ValueLayout
public import Idealize.ShloMosaic.Lib.IdealHost
public import Idealize.ShloMosaic.Lib.Pipeline.Value

@[expose] public section

noncomputable section

open scoped BigOperators

namespace Cert.Proof.Host

open Idealize.ShloMosaic Idealize.ShloMosaic.ValueIdx Cert.KernelIdeal Cert.KernelIdeal.Gen Idealize.ShloMosaic.StableHlo
  Idealize.ShloMosaic.TcCoe Cert.Proof.Spec

variable (m : (ℓ : Loc nD τ sig) → Buf (Elt Ideal) ℓ) (c : Dev nD)

/-! ## The arrays by name -/

/-- Argument 0. -/
def a0 : FVec Ideal S2000000x4 .f32 := m (c, Proc.devRef .tc main_arg0)
/-- Argument 1. -/
def a1 : FVec Ideal S4x64 .f32 := m (c, Proc.devRef .tc main_arg1)
/-- Argument 2. -/
def a2 : FVec Ideal S64 .f32 := m (c, Proc.devRef .tc main_arg2)
/-- Argument 3. -/
def a3 : FVec Ideal S64x32 .f32 := m (c, Proc.devRef .tc main_arg3)
/-- Argument 4. -/
def a4 : FVec Ideal S32 .f32 := m (c, Proc.devRef .tc main_arg4)
/-- Argument 5. -/
def a5 : FVec Ideal S32x8 .f32 := m (c, Proc.devRef .tc main_arg5)
/-- Argument 6. -/
def a6 : FVec Ideal S8 .f32 := m (c, Proc.devRef .tc main_arg6)
/-- Argument 7. -/
def a7 : FVec Ideal S8x3 .f32 := m (c, Proc.devRef .tc main_arg7)
/-- Argument 9. -/
def a9 : FVec Ideal S10x3x32 .f32 := m (c, Proc.devRef .tc main_arg9)
/-- Argument 10. -/
def a10 : FVec Ideal S10x32 .f32 := m (c, Proc.devRef .tc main_arg10)
/-- Argument 11. -/
def a11 : FVec Ideal S10x32x3 .f32 := m (c, Proc.devRef .tc main_arg11)
/-- Argument 12. -/
def a12 : FVec Ideal S10x3 .f32 := m (c, Proc.devRef .tc main_arg12)
/-- Argument 13. -/
def a13 : FVec Ideal S10x32x3 .f32 := m (c, Proc.devRef .tc main_arg13)
/-- Argument 14. -/
def a14 : FVec Ideal S10x3 .f32 := m (c, Proc.devRef .tc main_arg14)
/-- Argument 8. -/
def a8 : FVec Ideal S3 .f32 := m (c, Proc.devRef .tc main_arg8)
/-- The host's value 4. -/
def k4 : IVec S10 1 := V m c main_v4
/-- The host's value 7. -/
def k7 : FVec Ideal S10x3x32 .f32 := V m c main_v7
/-- The host's value 10. -/
def k10 : FVec Ideal S10x32x3 .f32 := V m c main_v10
/-- The host's value 13. -/
def k13 : FVec Ideal S10x32x3 .f32 := V m c main_v13
/-- The host's value 16. -/
def k16 : FVec Ideal S10x3x32 .f32 := V m c main_v16
/-- The host's value 19. -/
def k19 : FVec Ideal S10x32x3 .f32 := V m c main_v19
/-- The host's value 22. -/
def k22 : FVec Ideal S10x32x3 .f32 := V m c main_v22
/-- The host's value 25. -/
def k25 : FVec Ideal S10x3 .f32 := V m c main_v25
/-- The host's value 28. -/
def k28 : FVec Ideal S10x3 .f32 := V m c main_v28
/-- The host's value 29. -/
def k29 : FVec Ideal S64x4 .f32 := V m c main_v29
/-- The host's value 30. -/
def k30 : FVec Ideal S32x64 .f32 := V m c main_v30
/-- The host's value 34. -/
def k34 : FVec Ideal S3x32 .f32 := V m c main_v34
/-- The host's value 35. -/
def k35 : FVec Ideal S10x32x3 .f32 := V m c main_v35
/-- The host's value 39. -/
def k39 : FVec Ideal S10x16x32 .f32 := V m c main_v39
/-- The host's value 42. -/
def k42 : FVec Ideal S64x1 .f32 := V m c main_v42
/-- The host's value 43. -/
def k43 : FVec Ideal S32x1 .f32 := V m c main_v43
/-- The host's value 44. -/
def k44 : FVec Ideal S3x1 .f32 := V m c main_v44
/-- The host's value 45. -/
def k45 : FVec Ideal S10x32x1 .f32 := V m c main_v45
/-- The host's value 46. -/
def k46 : FVec Ideal S10x16x1 .f32 := V m c main_v46
/-- The host's value 50. -/
def k50 : FVec Ideal S4x2015232 .f32 := V m c main_v50

/-! ## Each array from the arrays before it -/

/-- Which layers are odd, as the host computes it. -/
theorem odd_apply (l : Fin 10) : (k4 m c) (ix1 l) = if l.val % 2 = 1 then 1#1 else 0#1 := by
  unfold k4 V V0
  after_reads_simp
  fin_cases l <;> rfl

theorem k7_eq : (k7 m c) = mulf (a9 m c)
    (broadcastInDim S10x3x32 ![0, 1, 2] bcast_S1x3x32_S10x3x32_0_1_2 (broadcastInDim S1x3x32 ![1, 2] bcast_S3x32_S1x3x32_1_2
      (fun i => FloatOps.ofBits .f32 (lit0 (S3x32.rowMajor i)) : FVec Ideal S3x32 .f32))) := by
  unfold k7 a9 V V0
  after_reads_simp
  rfl

theorem k16_eq : (k16 m c) = select (broadcastInDim S10x3x32 ![0, 1, 2] bcast_S10x1x1_S10x3x32_0_1_2
    (broadcastInDim S10x1x1 ![0] bcast_S10_S10x1x1_0 (k4 m c)))
      (Host.reverse [1] (k7 m c)) (k7 m c) := by
  unfold k4 k7 k16 V V0
  after_reads_simp
  rfl

theorem k10_eq : (k10 m c) = mulf (a11 m c)
    (broadcastInDim S10x32x3 ![0, 1, 2] bcast_S1x32x3_S10x32x3_0_1_2 (broadcastInDim S1x32x3 ![1, 2] bcast_S32x3_S1x32x3_1_2
      (fun i => FloatOps.ofBits .f32 (lit1 (S32x3.rowMajor i)) : FVec Ideal S32x3 .f32))) := by
  unfold k10 a11 V V0
  after_reads_simp
  rfl

theorem k13_eq : (k13 m c) = mulf (a13 m c)
    (broadcastInDim S10x32x3 ![0, 1, 2] bcast_S1x32x3_S10x32x3_0_1_2 (broadcastInDim S1x32x3 ![1, 2] bcast_S32x3_S1x32x3_1_2
      (fun i => FloatOps.ofBits .f32 (lit1 (S32x3.rowMajor i)) : FVec Ideal S32x3 .f32))) := by
  unfold k13 a13 V V0
  after_reads_simp
  rfl

theorem k19_eq : (k19 m c) = select (broadcastInDim S10x32x3 ![0, 1, 2] bcast_S10x1x1_S10x32x3_0_1_2
    (broadcastInDim S10x1x1 ![0] bcast_S10_S10x1x1_0 (k4 m c)))
      (Host.reverse [2] (k10 m c)) (k10 m c) := by
  unfold k4 k10 k19 V V0
  after_reads_simp
  rfl

theorem k22_eq : (k22 m c) = select (broadcastInDim S10x32x3 ![0, 1, 2] bcast_S10x1x1_S10x32x3_0_1_2
    (broadcastInDim S10x1x1 ![0] bcast_S10_S10x1x1_0 (k4 m c)))
      (Host.reverse [2] (k13 m c)) (k13 m c) := by
  unfold k4 k13 k22 V V0
  after_reads_simp
  rfl

theorem k25_eq : (k25 m c) = select (broadcastInDim S10x3 ![0, 1] bcast_S10x1_S10x3_0_1
    (broadcastInDim S10x1 ![0] bcast_S10_S10x1_0 (k4 m c)))
      (Host.reverse [1] (a12 m c)) (a12 m c) := by
  unfold k4 k25 a12 V V0
  after_reads_simp
  rfl

theorem k28_eq : (k28 m c) = select (broadcastInDim S10x3 ![0, 1] bcast_S10x1_S10x3_0_1
    (broadcastInDim S10x1 ![0] bcast_S10_S10x1_0 (k4 m c)))
      (Host.reverse [1] (a14 m c)) (a14 m c) := by
  unfold k4 k28 a14 V V0
  after_reads_simp
  rfl

theorem k35_eq : (k35 m c) =
    transpose S10x32x3 [0, 2, 1] (k16 m c) transposes_S10x3x32_S10x32x3_0_2_1 := by
  unfold k16 k35 V V0
  after_reads_simp

theorem k39_eq : (k39 m c) = concatenate S10x16x32 1
    [⟨S10x3x32, transpose S10x3x32 [0, 2, 1] (k19 m c) transposes_S10x32x3_S10x3x32_0_2_1⟩,
     ⟨S10x5x32, broadcastInDim S10x5x32 ![] bcast_S_S10x5x32 (constant S_ .f32 0x00000000#32 : FVec Ideal S_ .f32)⟩,
     ⟨S10x3x32, transpose S10x3x32 [0, 2, 1] (k22 m c) transposes_S10x32x3_S10x3x32_0_2_1⟩,
     ⟨S10x5x32, broadcastInDim S10x5x32 ![] bcast_S_S10x5x32 (constant S_ .f32 0x00000000#32 : FVec Ideal S_ .f32)⟩]
    concatenates_S10x3x32_S10x5x32_S10x3x32_S10x5x32_S10x16x32_d1 := by
  unfold k19 k22 k39 V V0
  after_reads_simp
  rfl

theorem k46_eq : (k46 m c) = shapeCast S10x16x1 (concatenate S10x16 1
    [⟨S10x3, (k25 m c)⟩,
     ⟨S10x5, broadcastInDim S10x5 ![] bcast_S_S10x5 (constant S_ .f32 0x00000000#32 : FVec Ideal S_ .f32)⟩,
     ⟨S10x3, (k28 m c)⟩,
     ⟨S10x5, broadcastInDim S10x5 ![] bcast_S_S10x5 (constant S_ .f32 0x00000000#32 : FVec Ideal S_ .f32)⟩]
    concatenates_S10x3_S10x5_S10x3_S10x5_S10x16_d1) shapeCasts_S10x16_S10x16x1 := by
  unfold k25 k28 k46 V V0
  after_reads_simp
  rfl

theorem k45_eq : (k45 m c) =
    shapeCast S10x32x1 (a10 m c) shapeCasts_S10x32_S10x32x1 := by
  unfold k45 a10 V V0
  after_reads_simp
  rfl

theorem k29_eq : (k29 m c) =
    transpose S64x4 [1, 0] (a1 m c) transposes_S4x64_S64x4_1_0 := by
  unfold k29 a1 V V0
  after_reads_simp

theorem k30_eq : (k30 m c) =
    transpose S32x64 [1, 0] (a3 m c) transposes_S64x32_S32x64_1_0 := by
  unfold k30 a3 V V0
  after_reads_simp

theorem k42_eq : (k42 m c) =
    shapeCast S64x1 (a2 m c) shapeCasts_S64_S64x1 := by
  unfold k42 a2 V V0
  after_reads_simp
  rfl

theorem k43_eq : (k43 m c) =
    shapeCast S32x1 (a4 m c) shapeCasts_S32_S32x1 := by
  unfold k43 a4 V V0
  after_reads_simp
  rfl

theorem k34_eq : (k34 m c) =
    transpose S3x32 [1, 0] (Host.dotGeneral dot_S32x8_S8x3_S32x3_1_0_0_1_n_n (φ₁ := .f32) (φ₂ := .f32) none (a5 m c)
      (a7 m c) : FVec Ideal S32x3 .f32) transposes_S32x3_S3x32_1_0 := by
  unfold k34 a5 a7 V V0
  after_reads_simp

theorem k44_eq : (k44 m c) =
    shapeCast S3x1 (addf (Host.dotGeneral dot_S8_S8x3_S3_0_0_n_1_n_n (φ₁ := .f32) (φ₂ := .f32) none (a6 m c)
      (a7 m c) : FVec Ideal S3 .f32) (a8 m c)) shapeCasts_S3_S3x1 := by
  unfold k44 a6 a7 a8 V V0
  after_reads_simp
  rfl

theorem k50_eq : (k50 m c) =
    Host.scatter scatter_S4x2015232_S1_S4x2000000_01_n_1_0 (fun _ b => b)
      (broadcastInDim S4x2015232 ![] bcast_S_S4x2015232 (constant S_ .f32 0x00000000#32 : FVec Ideal S_ .f32))
      (broadcastInDim S1 ![] bcast_S_S1 (constantI S_ 32 0#32))
      (transpose S4x2000000 [1, 0] (a0 m c) transposes_S2000000x4_S4x2000000_1_0) := by
  unfold k50 a0 V V0
  after_reads_simp

end Cert.Proof.Host
end
-- ==== Proof.Rows.lean ====
/- What one batch row of the result is, as a function of the fifteen arrays: the encoder's output through ten layers and
   the logistic function. -/
module

public import proofs.«01_k».proof.Proof.Spec
public import Idealize.ShloMosaic.Lib.ValueIdx

@[expose] public section

noncomputable section

open scoped BigOperators

namespace Cert.Proof.Spec

open Idealize.ShloMosaic Idealize.ShloMosaic.ValueIdx

/-- The mask from inputs to hidden units: hidden unit `j` sees input `d` when its degree `j % 2 + 1` is at least `d + 1`. -/
def maskH (d : Fin 3) (j : Fin 32) : EReal := if d.val ≤ j.val % 2 then 1 else 0

/-- The mask from hidden units to outputs: output `d` sees hidden unit `j` when `d + 1` is greater than its degree. -/
def maskO (j : Fin 32) (d : Fin 3) : EReal := if j.val % 2 < d.val then 1 else 0

/-- Layer `l` of the flow, its masks multiplied in. -/
def lay (A9 : (⟨3, ![10, 3, 32]⟩ : Shape).Idx → EReal) (A10 : (⟨2, ![10, 32]⟩ : Shape).Idx → EReal)
    (A11 : (⟨3, ![10, 32, 3]⟩ : Shape).Idx → EReal) (A12 : (⟨2, ![10, 3]⟩ : Shape).Idx → EReal)
    (A13 : (⟨3, ![10, 32, 3]⟩ : Shape).Idx → EReal) (A14 : (⟨2, ![10, 3]⟩ : Shape).Idx → EReal) (l : Fin 10) : Layer where
  wh d j := A9 (ix3 l d j) * maskH d j
  bh j := A10 (ix2 l j)
  wm j d := A11 (ix3 l j d) * maskO j d
  bm d := A12 (ix2 l d)
  wa j d := A13 (ix3 l j d) * maskO j d
  ba d := A14 (ix2 l d)

/-- The third input reaches no hidden unit. -/
theorem lay_wh_two (A9 : (⟨3, ![10, 3, 32]⟩ : Shape).Idx → EReal) (A10 : (⟨2, ![10, 32]⟩ : Shape).Idx → EReal)
    (A11 : (⟨3, ![10, 32, 3]⟩ : Shape).Idx → EReal) (A12 : (⟨2, ![10, 3]⟩ : Shape).Idx → EReal)
    (A13 : (⟨3, ![10, 32, 3]⟩ : Shape).Idx → EReal) (A14 : (⟨2, ![10, 3]⟩ : Shape).Idx → EReal) (l : Fin 10) (j : Fin 32) :
    (lay A9 A10 A11 A12 A13 A14 l).wh 2 j = 0 := by
  show A9 _ * maskH 2 j = 0
  rw [show maskH 2 j = 0 from if_neg (by show ¬ 2 ≤ j.val % 2; omega), mul_zero]

/-- The encoder of one row in the reference's order. -/
def enc (A1 : (⟨2, ![4, 64]⟩ : Shape).Idx → EReal) (A2 : (⟨1, ![64]⟩ : Shape).Idx → EReal) (A3 : (⟨2, ![64, 32]⟩ : Shape).Idx → EReal)
    (A4 : (⟨1, ![32]⟩ : Shape).Idx → EReal) (A5 : (⟨2, ![32, 8]⟩ : Shape).Idx → EReal) (A6 : (⟨1, ![8]⟩ : Shape).Idx → EReal)
    (A7 : (⟨2, ![8, 3]⟩ : Shape).Idx → EReal) (A8 : (⟨1, ![3]⟩ : Shape).Idx → EReal) (s : Fin 4 → EReal) : Fin 3 → EReal :=
  proj (enc2 (enc1 s (fun i j => A1 (ix2 i j)) fun j => A2 (ix1 j)) (fun j k => A3 (ix2 j k)) fun k => A4 (ix1 k))
    (fun k c => A5 (ix2 k c)) (fun c => A6 (ix1 c)) (fun c d => A7 (ix2 c d)) fun d => A8 (ix1 d)

/-- The factor of the first column, twice pi as a float. -/
def tau : EReal := Ideal.ofBits .f32 0x40C90FDB#32

end Cert.Proof.Spec
end
-- ==== Proof.KernelBody.lean ====
/- The kernel's body at one grid point, read at an element: the encoder, then ten layers, then the logistic function, of
   the block's column. The body's stages are named here as whole-block functions, each generated payload is one of
   them, and each is read at an element once. -/
module

public import proofs.«01_k».proof.Proof.Rows
public import proofs.«01_k».proof.Proof.Gen.KernelIdeal.Frame
public import Idealize.ShloMosaic.Lib.MatmulPlain
public import Idealize.ShloMosaic.Lib.StackMember
public import Idealize.ShloMosaic.Lib.IdealHost
public import Idealize.ShloMosaic.Lib.ValueIdx
public import Idealize.ShloMosaic.Lib.ValueLayout
public import Idealize.ShloMosaic.Lib.Pipeline.Value

@[expose] public section

noncomputable section

open scoped BigOperators

namespace Cert.Proof.Body

open Idealize.ShloMosaic Idealize.ShloMosaic.ValueIdx Cert.KernelIdeal Cert.KernelIdeal.Gen Cert.Proof.Spec

/-! ## Reading the shape operations at an element -/

/-- A column repeated along the rows reads the column. -/
theorem bcol {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p 0) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A plain product into a zero accumulator, at an element. -/
theorem mm {m k n : ℕ} {D : DotDims ⟨2, ![m, k]⟩ ⟨2, ![k, n]⟩ ⟨2, ![m, n]⟩} (hD : D = DotDims.plain m k n)
    (A : FVec Ideal ⟨2, ![m, k]⟩ .f32) (B : FVec Ideal ⟨2, ![k, n]⟩ .f32) (r : Fin m) (c : Fin n) :
    matmul D none A B (constant ⟨2, ![m, n]⟩ .f32 0x00000000#32) (ix2 r c) = ∑ i, A (ix2 r i) * B (ix2 i c) := by
  subst hD
  show FloatOps.matmul (DotDims.plain m k n) none A B _ (ix2 r c) = _
  rw [Ideal.matmul_plain_apply]
  show Ideal.ofBits .f32 0x00000000#32 + _ = _
  rw [Ideal.ofBits_zero_f32, zero_add]

/-! ## The stages, as functions of whole blocks -/

/-- A column of weights times a row of the block. -/
def prod (w : FVec Ideal S32x1 .f32) (r : FVec Ideal S1x8192 .f32) : FVec Ideal S32x8192 .f32 :=
  mulf (broadcastTo S32x8192 w broadcasts_S32x1_S32x8192) (broadcastTo S32x8192 r broadcasts_S1x8192_S32x8192)

/-- The hidden rows of an even layer, before the bias. -/
def twoE (W : Vec Ideal S1x32x3 .f32) (y : FVec Ideal S3x8192 .f32) : FVec Ideal S32x8192 .f32 :=
  addf (prod (extractStridedSlice S32x1 ![0, 0] (shapeCast S32x3 W shapeCasts_S1x32x3_S32x3) slices_S32x3_o0_0_S32x1)
      (extractStridedSlice S1x8192 ![0, 0] y slices_S3x8192_o0_0_S1x8192))
    (prod (extractStridedSlice S32x1 ![0, 1] (shapeCast S32x3 W shapeCasts_S1x32x3_S32x3) slices_S32x3_o0_1_S32x1)
      (extractStridedSlice S1x8192 ![1, 0] y slices_S3x8192_o1_0_S1x8192))

/-- The hidden rows of an odd layer, before the bias. -/
def twoO (W : Vec Ideal S1x32x3 .f32) (y : FVec Ideal S3x8192 .f32) : FVec Ideal S32x8192 .f32 :=
  addf (prod (extractStridedSlice S32x1 ![0, 1] (shapeCast S32x3 W shapeCasts_S1x32x3_S32x3) slices_S32x3_o0_1_S32x1)
      (extractStridedSlice S1x8192 ![1, 0] y slices_S3x8192_o1_0_S1x8192))
    (prod (extractStridedSlice S32x1 ![0, 2] (shapeCast S32x3 W shapeCasts_S1x32x3_S32x3) slices_S32x3_o0_2_S32x1)
      (extractStridedSlice S1x8192 ![2, 0] y slices_S3x8192_o2_0_S1x8192))

/-- The bias added and the negative part dropped. -/
def relu (p : FVec Ideal S32x8192 .f32) (B : Vec Ideal S1x32x1 .f32) : FVec Ideal S32x8192 .f32 :=
  maximumf (addf p (broadcastTo S32x8192 (shapeCast S32x1 B shapeCasts_S1x32x1_S32x1) broadcasts_S32x1_S32x8192))
    (broadcast S32x8192 (Scalar.ofBits .f32 0x00000000#32))

/-- The sixteen rows made from the hidden ones. -/
def rows (h : FVec Ideal S32x8192 .f32) (M : Vec Ideal S1x16x32 .f32) (C : Vec Ideal S1x16x1 .f32) : FVec Ideal S16x8192 .f32 :=
  addf (matmul dot_S16x32_S32x8192_S16x8192_1_0_0_1_n_n none
      (shapeCast S16x32 M shapeCasts_S1x16x32_S16x32 : FVec Ideal S16x32 .f32) h
      (constant S16x8192 .f32 0x00000000#32))
    (broadcastTo S16x8192 (shapeCast S16x1 C shapeCasts_S1x16x1_S16x1) broadcasts_S16x1_S16x8192)

/-- The layer's result from its input and the sixteen rows. -/
def fin (y : FVec Ideal S3x8192 .f32) (r : FVec Ideal S16x8192 .f32) : FVec Ideal S3x8192 .f32 :=
  mulf (subf y (extractStridedSlice S3x8192 ![0, 0] r slices_S16x8192_o0_0_S3x8192))
    (exp (subf (broadcast S3x8192 (Scalar.ofBits .f32 0x00000000#32))
      (tanh (extractStridedSlice S3x8192 ![8, 0] r slices_S16x8192_o8_0_S3x8192))))

/-- An even layer. -/
def layE (W : Vec Ideal S1x32x3 .f32) (B : Vec Ideal S1x32x1 .f32) (M : Vec Ideal S1x16x32 .f32) (C : Vec Ideal S1x16x1 .f32)
    (y : FVec Ideal S3x8192 .f32) : FVec Ideal S3x8192 .f32 := fin y (rows (relu (twoE W y) B) M C)
/-- An odd layer. -/
def layO (W : Vec Ideal S1x32x3 .f32) (B : Vec Ideal S1x32x1 .f32) (M : Vec Ideal S1x16x32 .f32) (C : Vec Ideal S1x16x1 .f32)
    (y : FVec Ideal S3x8192 .f32) : FVec Ideal S3x8192 .f32 := fin y (rows (relu (twoO W y) B) M C)

/-! ## The generated payloads are these stages -/

section Payloads
variable (y : FVec Ideal S3x8192 .f32) (W W' : Vec Ideal S1x32x3 .f32) (B B' : Vec Ideal S1x32x1 .f32)
  (M M' : Vec Ideal S1x16x32 .f32) (C C' : Vec Ideal S1x16x1 .f32) (p : FVec Ideal S32x8192 .f32) (q : FVec Ideal S16x8192 .f32)

/-- Layer 2's product, then the rest of layer 2. -/
theorem pay11_10 : k0_pay11 (F := Ideal) (k0_pay9 y p M C) (k0_pay10 y p M C W B M') C' = layE W B M' C' (k0_pay9 y p M C) := rfl
/-- Layers 3 and 4 from layer 2's result. -/
theorem pay15_13 : k0_pay15 (F := Ideal) (k0_pay13 y q C W B M C') (k0_pay14 y q C W B M C') (Scalar.ofBits .f32 0x00000000#32) W' B' M' C
    = layE W' B' M' C (layO W B M C' (k0_pay11 y q C)) := rfl

end Payloads

section Stages
variable (x0 : Vec Ideal S4x8192 .f32) (x1 : Vec Ideal S64x4 .f32) (x2 : Vec Ideal S64x1 .f32) (x3 : Vec Ideal S32x64 .f32)
  (x4 : Vec Ideal S32x1 .f32) (x5 : Vec Ideal S3x32 .f32) (x6 : Vec Ideal S3x1 .f32) (x7 : Vec Ideal S10x32x3 .f32)
  (x8 : Vec Ideal S10x32x1 .f32) (x9 : Vec Ideal S10x16x32 .f32) (x10 : Vec Ideal S10x16x1 .f32)

/-- Layer 0. -/
theorem stage0 : k0_pay30 (F := Ideal) x0 x1 x2 x3 x4 x5 x6 x7 x8 x9 x10
    = layE (View.ld x7 r0_7) (View.ld x8 r0_8) (View.ld x9 r0_9) (View.ld x10 r0_10) (k0_pay26 x0 x1 x2 x3 x4 x5 x6 x7 x8 x9 x10) := rfl
/-- Layer 1. -/
theorem stage1 : k0_pay32 (F := Ideal) x0 x1 x2 x3 x4 x5 x6 x7 x8 x9 x10
    = layO (View.ld x7 r0_11) (View.ld x8 r0_12) (View.ld x9 r0_13) (View.ld x10 r0_14) (k0_pay30 x0 x1 x2 x3 x4 x5 x6 x7 x8 x9 x10) := rfl
/-- Layers 2, 3 and 4. -/
theorem stage4 : k0_pay36 (F := Ideal) x0 x1 x2 x3 x4 x5 x6 x7 x8 x9 x10
    = layE (View.ld x7 r0_23) (View.ld x8 r0_24) (View.ld x9 r0_25) (View.ld x10 r0_26)
      (layO (View.ld x7 r0_19) (View.ld x8 r0_20) (View.ld x9 r0_21) (View.ld x10 r0_22)
        (layE (View.ld x7 r0_15) (View.ld x8 r0_16) (View.ld x9 r0_17) (View.ld x10 r0_18) (k0_pay32 x0 x1 x2 x3 x4 x5 x6 x7 x8 x9 x10))) := rfl
/-- Layer 5. -/
theorem stage5 : k0_pay40 (F := Ideal) x0 x1 x2 x3 x4 x5 x6 x7 x8 x9 x10
    = layO (View.ld x7 r0_27) (View.ld x8 r0_28) (View.ld x9 r0_29) (View.ld x10 r0_30) (k0_pay36 x0 x1 x2 x3 x4 x5 x6 x7 x8 x9 x10) := rfl
/-- Layer 6. -/
theorem stage6 : k0_pay42 (F := Ideal) x0 x1 x2 x3 x4 x5 x6 x7 x8 x9 x10
    = layE (View.ld x7 r0_31) (View.ld x8 r0_32) (View.ld x9 r0_33) (View.ld x10 r0_34) (k0_pay40 x0 x1 x2 x3 x4 x5 x6 x7 x8 x9 x10) := rfl
/-- Layers 7, 8 and 9, the logistic function and the scale: the block the body stores. -/
theorem stage9 : out0_11 (F := Ideal) x0 x1 x2 x3 x4 x5 x6 x7 x8 x9 x10
    = k0_pay1 (logistic (layO (View.ld x7 r0_43) (View.ld x8 r0_44) (View.ld x9 r0_45) (View.ld x10 r0_46)
      (layE (View.ld x7 r0_39) (View.ld x8 r0_40) (View.ld x9 r0_41) (View.ld x10 r0_42)
        (layO (View.ld x7 r0_35) (View.ld x8 r0_36) (View.ld x9 r0_37) (View.ld x10 r0_38) (k0_pay42 x0 x1 x2 x3 x4 x5 x6 x7 x8 x9 x10)))))
      (iota .tc S3x1 32 [0] iota_S3x1_d0_w32) := by
  unfold out0_11
  exact View.canon_unit_zero (funext fun a => by fin_cases a <;> rfl) _ _

end Stages

/-! ## The stages at an element -/

theorem prod_apply (w : FVec Ideal S32x1 .f32) (r : FVec Ideal S1x8192 .f32) (j : Fin 32) (c : Fin 8192) :
    prod w r (ix2 j c) = w (ix2 j 0) * r (ix2 0 c) := by
  unfold prod
  rw [mulf_apply, bcol, broadcastTo_1b_ab_apply]

/-- One layer's weights as the kernel is handed them, cut out of the ten. -/
def kl (W : Vec Ideal S1x32x3 .f32) (B : Vec Ideal S1x32x1 .f32) (M : Vec Ideal S1x16x32 .f32) (C : Vec Ideal S1x16x1 .f32) : KLayer where
  w j d := W (ix3 0 j d)
  b j := B (ix3 0 j 0)
  m o j := M (ix3 0 o j)
  c o := C (ix3 0 o 0)

section Layer
variable (W : Vec Ideal S1x32x3 .f32) (B : Vec Ideal S1x32x1 .f32) (M : Vec Ideal S1x16x32 .f32) (C : Vec Ideal S1x16x1 .f32)
  (y : FVec Ideal S3x8192 .f32) (c : Fin 8192)

theorem twoE_apply (j : Fin 32) : twoE W y (ix2 j c) = W (ix3 0 j 0) * y (ix2 0 c) + W (ix3 0 j 1) * y (ix2 1 c) := by
  unfold twoE
  rw [addf_apply, prod_apply, prod_apply, slice2_axis1_apply 0 _ _ j 0 0 rfl, slice2_axis1_apply 1 _ _ j 0 1 rfl,
    slice2_axis0_apply 0 _ _ 0 c 0 rfl, slice2_axis0_apply 1 _ _ 0 c 1 rfl, shapeCast_1ab_ab_apply, shapeCast_1ab_ab_apply]

theorem twoO_apply (j : Fin 32) : twoO W y (ix2 j c) = W (ix3 0 j 1) * y (ix2 1 c) + W (ix3 0 j 2) * y (ix2 2 c) := by
  unfold twoO
  rw [addf_apply, prod_apply, prod_apply, slice2_axis1_apply 1 _ _ j 0 1 rfl, slice2_axis1_apply 2 _ _ j 0 2 rfl,
    slice2_axis0_apply 1 _ _ 0 c 1 rfl, slice2_axis0_apply 2 _ _ 0 c 2 rfl, shapeCast_1ab_ab_apply, shapeCast_1ab_ab_apply]

theorem relu_apply (p : FVec Ideal S32x8192 .f32) (j : Fin 32) : relu p B (ix2 j c) = max (p (ix2 j c) + B (ix3 0 j 0)) 0 := by
  unfold relu
  rw [maximumf_apply, addf_apply, bcol, shapeCast_1ab_ab_apply, broadcast_apply]
  exact congrArg (max _) Ideal.ofBits_zero_f32

theorem rows_apply (h : FVec Ideal S32x8192 .f32) (o : Fin 16) :
    rows h M C (ix2 o c) = ∑ j, M (ix3 0 o j) * h (ix2 j c) + C (ix3 0 o 0) := by
  unfold rows
  rw [addf_apply, bcol, shapeCast_1ab_ab_apply, mm (D := dot_S16x32_S32x8192_S16x8192_1_0_0_1_n_n) rfl]
  simp only [shapeCast_1ab_ab_apply]

theorem fin_apply (r : FVec Ideal S16x8192 .f32) (d : Fin 3) :
    fin y r (ix2 d c) = (y (ix2 d c) - r (ix2 (lo d) c)) * Ideal.exp (0 - Ideal.tanh (r (ix2 (hi d) c))) := by
  have e : fin y r (ix2 d c) = (y (ix2 d c) - extractStridedSlice S3x8192 ![0, 0] r slices_S16x8192_o0_0_S3x8192 (ix2 d c))
      * Ideal.exp (Ideal.ofBits .f32 0x00000000#32 - Ideal.tanh (extractStridedSlice S3x8192 ![8, 0] r slices_S16x8192_o8_0_S3x8192 (ix2 d c))) := rfl
  rw [e, slice2_axis0_apply 0 _ _ d c (lo d) (Nat.zero_add _).symm, slice2_axis0_apply 8 _ _ d c (hi d) rfl, Ideal.ofBits_zero_f32]

theorem layE_apply (d : Fin 3) : layE W B M C y (ix2 d c) = (kl W B M C).step 0 1 (fun d => y (ix2 d c)) d := by
  unfold layE
  simp only [fin_apply, rows_apply, relu_apply, twoE_apply]
  rfl

theorem layO_apply (d : Fin 3) : layO W B M C y (ix2 d c) = (kl W B M C).step 1 2 (fun d => y (ix2 d c)) d := by
  unfold layO
  simp only [fin_apply, rows_apply, relu_apply, twoO_apply]
  rfl

end Layer

/-! ## The whole body at an element -/

/-- Layer `l`'s weights, out of the four arrays of ten. -/
def kls (x7 : Vec Ideal S10x32x3 .f32) (x8 : Vec Ideal S10x32x1 .f32) (x9 : Vec Ideal S10x16x32 .f32) (x10 : Vec Ideal S10x16x1 .f32)
    (l : Fin 10) : KLayer where
  w j d := x7 (ix3 l j d)
  b j := x8 (ix3 l j 0)
  m o j := x9 (ix3 l o j)
  c o := x10 (ix3 l o 0)

/-- A layer's page of an array of ten, read at an element. -/
theorem page {a b : ℕ} (l : Fin 10) (o : Fin 3 → ℕ) (ho : o = ![l.val, 0, 0]) (X : Vec Ideal ⟨3, ![10, a, b]⟩ .f32)
    (inb : ∀ i, o i + (⟨3, ![1, a, b]⟩ : Shape).size i ≤ (⟨3, ![10, a, b]⟩ : Shape).size i) (i : Fin a) (j : Fin b) :
    View.ld X (Rect.unit (s := ⟨3, ![10, a, b]⟩) o (⟨3, ![1, a, b]⟩ : Shape).size inb) (ix3 0 i j) = X (ix3 l i j) := by
  subst ho
  refine congrArg X (funext fun t => Fin.ext ?_)
  match t with
  | ⟨0, _⟩ => show l.val + 1 * 0 = l.val; omega
  | ⟨1, _⟩ => show 0 + 1 * i.val = i.val; omega
  | ⟨2, _⟩ => show 0 + 1 * j.val = j.val; omega

/-- The pages of layer `l` are layer `l`'s weights. -/
theorem kl_page (x7 : Vec Ideal S10x32x3 .f32) (x8 : Vec Ideal S10x32x1 .f32) (x9 : Vec Ideal S10x16x32 .f32) (x10 : Vec Ideal S10x16x1 .f32)
    (l : Fin 10) (o : Fin 3 → ℕ) (ho : o = ![l.val, 0, 0]) (h7 h8 h9 h10) :
    kl (View.ld x7 (Rect.unit (s := S10x32x3) o S1x32x3.size h7)) (View.ld x8 (Rect.unit (s := S10x32x1) o S1x32x1.size h8))
      (View.ld x9 (Rect.unit (s := S10x16x32) o S1x16x32.size h9)) (View.ld x10 (Rect.unit (s := S10x16x1) o S1x16x1.size h10))
    = kls x7 x8 x9 x10 l := by
  unfold kl kls
  congr 1
  · funext j d; exact page l o ho x7 h7 j d
  · funext j; exact page l o ho x8 h8 j 0
  · funext p j; exact page l o ho x9 h9 p j
  · funext p; exact page l o ho x10 h10 p 0

section Whole
variable (x0 : Vec Ideal S4x8192 .f32) (x1 : Vec Ideal S64x4 .f32) (x2 : Vec Ideal S64x1 .f32) (x3 : Vec Ideal S32x64 .f32)
  (x4 : Vec Ideal S32x1 .f32) (x5 : Vec Ideal S3x32 .f32) (x6 : Vec Ideal S3x1 .f32) (x7 : Vec Ideal S10x32x3 .f32)
  (x8 : Vec Ideal S10x32x1 .f32) (x9 : Vec Ideal S10x16x32 .f32) (x10 : Vec Ideal S10x16x1 .f32)

/-- The encoder of a block's column, in the kernel's order. -/
def kenc (s : Fin 4 → EReal) (d : Fin 3) : EReal :=
  ∑ k : Fin 32, x5 (ix2 d k) * max (∑ j : Fin 64, x3 (ix2 k j) * max (∑ i : Fin 4, x1 (ix2 j i) * s i + x2 (ix2 j 0)) 0 + x4 (ix2 k 0)) 0 + x6 (ix2 d 0)

theorem enc_apply (d : Fin 3) (c : Fin 8192) : k0_pay26 (F := Ideal) x0 x1 x2 x3 x4 x5 x6 x7 x8 x9 x10 (ix2 d c)
    = kenc x1 x2 x3 x4 x5 x6 (fun i => x0 (ix2 i c)) d := by
  have z : ∀ {n : ℕ}, (![0, 0] : Fin 2 → ℕ) = fun _ => 0 := fun {_} => funext fun a => by fin_cases a <;> rfl
  unfold k0_pay26
  rw [View.ld_unit_zero (z (n := 0)) _ x0, View.ld_unit_zero (z (n := 0)) _ x1, View.ld_unit_zero (z (n := 0)) _ x2,
    View.ld_unit_zero (z (n := 0)) _ x3, View.ld_unit_zero (z (n := 0)) _ x4, View.ld_unit_zero (z (n := 0)) _ x5,
    View.ld_unit_zero (z (n := 0)) _ x6]
  unfold k0_pay2 kenc
  simp only [shapeCast_self]
  rw [addf_apply, bcol, mm (D := dot_S3x32_S32x8192_S3x8192_1_0_0_1_n_n) rfl]
  refine congrArg (· + _) (Finset.sum_congr rfl fun k _ => congrArg (_ * ·) ?_)
  rw [maximumf_apply, addf_apply, bcol, mm (D := dot_S32x64_S64x8192_S32x8192_1_0_0_1_n_n) rfl, broadcast_apply]
  refine congrArg₂ max (congrArg (· + _) (Finset.sum_congr rfl fun j _ => congrArg (_ * ·) ?_)) Ideal.ofBits_zero_f32
  rw [maximumf_apply, addf_apply, bcol, mm (D := dot_S64x4_S4x8192_S64x8192_1_0_0_1_n_n) rfl, broadcast_apply]
  exact congrArg (max _) Ideal.ofBits_zero_f32

/-- The block the body stores, at an element: the row's result, of its column alone. -/
theorem body_apply (d : Fin 3) (c : Fin 8192) : out0_11 (F := Ideal) x0 x1 x2 x3 x4 x5 x6 x7 x8 x9 x10 (ix2 d c)
    = out tau (kflow (kls x7 x8 x9 x10) (kenc x1 x2 x3 x4 x5 x6 fun i => x0 (ix2 i c))) d := by
  have e : ∀ (v : FVec Ideal S3x8192 .f32), k0_pay1 (logistic v) (iota .tc S3x1 32 [0] iota_S3x1_d0_w32) (ix2 d c)
      = Ideal.logistic (v (ix2 d c)) * (if d = 0 then tau else 1) := by
    intro v
    unfold k0_pay1
    rw [mulf_apply, bcol]
    refine congrArg (Ideal.logistic (v (ix2 d c)) * ·) ?_
    fin_cases d
    · rfl
    · exact Ideal.ofBits_one_f32
    · exact Ideal.ofBits_one_f32
  rw [stage9, e, stage6, stage5, stage4, stage1, stage0]
  unfold out
  refine congrArg (fun v => Ideal.logistic v * _) ?_
  simp only [layE_apply, layO_apply, enc_apply]
  unfold kflow
  rw [show kl (View.ld x7 r0_7) (View.ld x8 r0_8) (View.ld x9 r0_9) (View.ld x10 r0_10) = kls x7 x8 x9 x10 0 from kl_page x7 x8 x9 x10 0 _ rfl _ _ _ _]
  rw [show kl (View.ld x7 r0_11) (View.ld x8 r0_12) (View.ld x9 r0_13) (View.ld x10 r0_14) = kls x7 x8 x9 x10 1 from kl_page x7 x8 x9 x10 1 _ rfl _ _ _ _]
  rw [show kl (View.ld x7 r0_15) (View.ld x8 r0_16) (View.ld x9 r0_17) (View.ld x10 r0_18) = kls x7 x8 x9 x10 2 from kl_page x7 x8 x9 x10 2 _ rfl _ _ _ _]
  rw [show kl (View.ld x7 r0_19) (View.ld x8 r0_20) (View.ld x9 r0_21) (View.ld x10 r0_22) = kls x7 x8 x9 x10 3 from kl_page x7 x8 x9 x10 3 _ rfl _ _ _ _]
  rw [show kl (View.ld x7 r0_23) (View.ld x8 r0_24) (View.ld x9 r0_25) (View.ld x10 r0_26) = kls x7 x8 x9 x10 4 from kl_page x7 x8 x9 x10 4 _ rfl _ _ _ _]
  rw [show kl (View.ld x7 r0_27) (View.ld x8 r0_28) (View.ld x9 r0_29) (View.ld x10 r0_30) = kls x7 x8 x9 x10 5 from kl_page x7 x8 x9 x10 5 _ rfl _ _ _ _]
  rw [show kl (View.ld x7 r0_31) (View.ld x8 r0_32) (View.ld x9 r0_33) (View.ld x10 r0_34) = kls x7 x8 x9 x10 6 from kl_page x7 x8 x9 x10 6 _ rfl _ _ _ _]
  rw [show kl (View.ld x7 r0_35) (View.ld x8 r0_36) (View.ld x9 r0_37) (View.ld x10 r0_38) = kls x7 x8 x9 x10 7 from kl_page x7 x8 x9 x10 7 _ rfl _ _ _ _]
  rw [show kl (View.ld x7 r0_39) (View.ld x8 r0_40) (View.ld x9 r0_41) (View.ld x10 r0_42) = kls x7 x8 x9 x10 8 from kl_page x7 x8 x9 x10 8 _ rfl _ _ _ _]
  rw [show kl (View.ld x7 r0_43) (View.ld x8 r0_44) (View.ld x9 r0_45) (View.ld x10 r0_46) = kls x7 x8 x9 x10 9 from kl_page x7 x8 x9 x10 9 _ rfl _ _ _ _]

end Whole

end Cert.Proof.Body

end
-- ==== Proof.KernelReads.lean ====
/- The kernel's layer weights and encoder weights at an element: in the even layers the reference's masked weights, in the
   odd layers the same with the axis of three reversed. -/
module

public import proofs.«01_k».proof.Proof.KernelHost
public import proofs.«01_k».proof.Proof.KernelBody
public import Idealize.ShloMosaic.Lib.Routing.OpsSet
public import Idealize.ShloMosaic.Lib.Routing.OpsOne
public import Idealize.ShloMosaic.Lib.ValueLayoutCasts

@[expose] public section

noncomputable section

open scoped BigOperators

namespace Cert.Proof.Host

open Idealize.ShloMosaic Idealize.ShloMosaic.ValueIdx Cert.KernelIdeal Cert.KernelIdeal.Gen Idealize.ShloMosaic.TcCoe
  Cert.Proof.Spec

/-! ## The shape operations at an element -/

/-- A matrix repeated along a new leading axis reads the matrix. -/
theorem lead_apply {α : Type} {n p q : ℕ} (hp : p ≠ 1) (hq : q ≠ 1) (K : (⟨2, ![p, q]⟩ : Shape).Idx → α)
    (h₁ : (⟨2, ![p, q]⟩ : Shape).BroadcastsInDim ⟨3, ![1, p, q]⟩ ![1, 2])
    (h₂ : (⟨3, ![1, p, q]⟩ : Shape).BroadcastsInDim ⟨3, ![n, p, q]⟩ ![0, 1, 2]) (l : Fin n) (a : Fin p) (b : Fin q) :
    broadcastInDim ⟨3, ![n, p, q]⟩ ![0, 1, 2] h₂ (broadcastInDim ⟨3, ![1, p, q]⟩ ![1, 2] h₁ K) (ix3 l a b) = K (ix2 a b) := by
  refine (broadcastInDim_apply _ h₂ _ (ix3 l a b) (ix3 (0 : Fin 1) a b) fun x => ?_).trans
    (broadcastInDim_apply _ h₁ K (ix3 (0 : Fin 1) a b) (ix2 a b) fun x => ?_)
  · match x with
    | ⟨0, _⟩ => exact (if_pos rfl).symm
    | ⟨1, _⟩ => exact (if_neg hp).symm
    | ⟨2, _⟩ => exact (if_neg hq).symm
  · match x with
    | ⟨0, _⟩ => exact (if_neg hp).symm
    | ⟨1, _⟩ => exact (if_neg hq).symm

/-- One bit per layer, repeated over a layer's matrix, reads the layer's bit. -/
theorem bit3_apply {α : Type} {n p q : ℕ} (hn : n ≠ 1) (o : (⟨1, ![n]⟩ : Shape).Idx → α)
    (h₁ : (⟨1, ![n]⟩ : Shape).BroadcastsInDim ⟨3, ![n, 1, 1]⟩ ![0])
    (h₂ : (⟨3, ![n, 1, 1]⟩ : Shape).BroadcastsInDim ⟨3, ![n, p, q]⟩ ![0, 1, 2]) (l : Fin n) (a : Fin p) (b : Fin q) :
    broadcastInDim ⟨3, ![n, p, q]⟩ ![0, 1, 2] h₂ (broadcastInDim ⟨3, ![n, 1, 1]⟩ ![0] h₁ o) (ix3 l a b) = o (ix1 l) := by
  refine (broadcastInDim_apply _ h₂ _ (ix3 l a b) (ix3 l (0 : Fin 1) (0 : Fin 1)) fun x => ?_).trans
    (broadcastInDim_apply _ h₁ o (ix3 l (0 : Fin 1) (0 : Fin 1)) (ix1 l) fun x => ?_)
  · match x with
    | ⟨0, _⟩ => exact (if_neg hn).symm
    | ⟨1, _⟩ => exact (if_pos rfl).symm
    | ⟨2, _⟩ => exact (if_pos rfl).symm
  · match x with
    | ⟨0, _⟩ => exact (if_neg hn).symm

/-- One bit per layer, repeated over a layer's row, reads the layer's bit. -/
theorem bit2_apply {α : Type} {n p : ℕ} (hn : n ≠ 1) (o : (⟨1, ![n]⟩ : Shape).Idx → α)
    (h₁ : (⟨1, ![n]⟩ : Shape).BroadcastsInDim ⟨2, ![n, 1]⟩ ![0])
    (h₂ : (⟨2, ![n, 1]⟩ : Shape).BroadcastsInDim ⟨2, ![n, p]⟩ ![0, 1]) (l : Fin n) (a : Fin p) :
    broadcastInDim ⟨2, ![n, p]⟩ ![0, 1] h₂ (broadcastInDim ⟨2, ![n, 1]⟩ ![0] h₁ o) (ix2 l a) = o (ix1 l) := by
  refine (broadcastInDim_apply _ h₂ _ (ix2 l a) (ix2 l (0 : Fin 1)) fun x => ?_).trans
    (broadcastInDim_apply _ h₁ o (ix2 l (0 : Fin 1)) (ix1 l) fun x => ?_)
  · match x with
    | ⟨0, _⟩ => exact (if_neg hn).symm
    | ⟨1, _⟩ => exact (if_pos rfl).symm
  · match x with
    | ⟨0, _⟩ => exact (if_neg hn).symm

/-- A stack of matrices reversed along its middle axis. -/
theorem rev_mid {α : Type} {n p q : ℕ} (x : (⟨3, ![n, p, q]⟩ : Shape).Idx → α) (l : Fin n) (a : Fin p) (b : Fin q) :
    Host.reverse [1] x (ix3 l a b) = x (ix3 l a.rev b) :=
  congrArg x (funext fun y => match y with | ⟨0, _⟩ => rfl | ⟨1, _⟩ => rfl | ⟨2, _⟩ => rfl)

/-- A stack of matrices reversed along its last axis. -/
theorem rev_last {α : Type} {n p q : ℕ} (x : (⟨3, ![n, p, q]⟩ : Shape).Idx → α) (l : Fin n) (a : Fin p) (b : Fin q) :
    Host.reverse [2] x (ix3 l a b) = x (ix3 l a b.rev) :=
  congrArg x (funext fun y => match y with | ⟨0, _⟩ => rfl | ⟨1, _⟩ => rfl | ⟨2, _⟩ => rfl)

/-- A matrix reversed along its last axis. -/
theorem rev_row {α : Type} {n p : ℕ} (x : (⟨2, ![n, p]⟩ : Shape).Idx → α) (l : Fin n) (a : Fin p) :
    Host.reverse [1] x (ix2 l a) = x (ix2 l a.rev) :=
  congrArg x (funext fun y => match y with | ⟨0, _⟩ => rfl | ⟨1, _⟩ => rfl)

/-! ## The masks -/

/-- Both words of a mask as extended reals. -/
theorem bit_word (b : Bool) : Ideal.ofBits .f32 (if b then 0x3F800000#32 else 0x00000000#32) = if b then 1 else 0 := by
  cases b
  · exact Ideal.ofBits_zero_f32
  · exact Ideal.ofBits_one_f32

/-- The words of the mask into the hidden units. -/
theorem lit0_eq : ∀ (d : Fin 3) (j : Fin 32), lit0 (S3x32.rowMajor (ix2 d j)) = if decide (d.val ≤ j.val % 2) then 0x3F800000#32 else 0x00000000#32 := by
  decide +kernel

/-- The words of the mask out of the hidden units. -/
theorem lit1_eq : ∀ (j : Fin 32) (d : Fin 3), lit1 (S32x3.rowMajor (ix2 j d)) = if decide (j.val % 2 < d.val) then 0x3F800000#32 else 0x00000000#32 := by
  decide +kernel

theorem lit0_mask (d : Fin 3) (j : Fin 32) : Ideal.ofBits .f32 (lit0 (S3x32.rowMajor (ix2 d j))) = maskH d j := by
  rw [lit0_eq, bit_word]
  simp only [maskH, decide_eq_true_eq]

theorem lit1_mask (j : Fin 32) (d : Fin 3) : Ideal.ofBits .f32 (lit1 (S32x3.rowMajor (ix2 j d))) = maskO j d := by
  rw [lit1_eq, bit_word]
  simp only [maskO, decide_eq_true_eq]

/-! ## The layers' weights -/

variable (m : (ℓ : Loc nD τ sig) → Buf (Elt Ideal) ℓ) (c : Dev nD)

/-- The coordinate a layer's stored weights put at place `d`: reversed in the odd layers. -/
def flip (l : Fin 10) (d : Fin 3) : Fin 3 := if l.val % 2 = 1 then d.rev else d

/-- Choosing by a layer's bit between an array reversed in `d` and the array itself reads at the flipped coordinate. -/
theorem pick_flip (l : Fin 10) (d : Fin 3) (b : BitVec 1) (hb : b = if l.val % 2 = 1 then 1#1 else 0#1) (f : Fin 3 → EReal) :
    Scalar.select b (f d.rev) (f d) = f (flip l d) := by
  subst hb
  unfold flip
  split <;> rfl

/-- A masked weight into the hidden units, at an element. -/
theorem maskedH (A : FVec Ideal S10x3x32 .f32) (l : Fin 10) (d : Fin 3) (j : Fin 32) :
    mulf A (broadcastInDim S10x3x32 ![0, 1, 2] bcast_S1x3x32_S10x3x32_0_1_2 (broadcastInDim S1x3x32 ![1, 2] bcast_S3x32_S1x3x32_1_2
      (fun i => FloatOps.ofBits .f32 (lit0 (S3x32.rowMajor i)) : FVec Ideal S3x32 .f32))) (ix3 l d j) = A (ix3 l d j) * maskH d j :=
  congrArg (fun t : EReal => A (ix3 l d j) * t) ((lead_apply (by decide) (by decide) _ _ _ l d j).trans (lit0_mask d j))

/-- A masked weight out of the hidden units, at an element. -/
theorem maskedO (A : FVec Ideal S10x32x3 .f32) (l : Fin 10) (j : Fin 32) (d : Fin 3) :
    mulf A (broadcastInDim S10x32x3 ![0, 1, 2] bcast_S1x32x3_S10x32x3_0_1_2 (broadcastInDim S1x32x3 ![1, 2] bcast_S32x3_S1x32x3_1_2
      (fun i => FloatOps.ofBits .f32 (lit1 (S32x3.rowMajor i)) : FVec Ideal S32x3 .f32))) (ix3 l j d) = A (ix3 l j d) * maskO j d :=
  congrArg (fun t : EReal => A (ix3 l j d) * t) ((lead_apply (by decide) (by decide) _ _ _ l j d).trans (lit1_mask j d))

/-- The choice by layer between weights reversed in their middle axis and the weights, at an element. -/
theorem pickH (o : IVec S10 1) (ho : ∀ l : Fin 10, o (ix1 l) = if l.val % 2 = 1 then 1#1 else 0#1) (X : FVec Ideal S10x3x32 .f32)
    (l : Fin 10) (d : Fin 3) (j : Fin 32) :
    select (broadcastInDim S10x3x32 ![0, 1, 2] bcast_S10x1x1_S10x3x32_0_1_2 (broadcastInDim S10x1x1 ![0] bcast_S10_S10x1x1_0 o))
      (Host.reverse [1] X) X (ix3 l d j) = X (ix3 l (flip l d) j) := by
  rw [select_apply, rev_mid]
  exact pick_flip l d _ ((bit3_apply (by decide) o _ _ l d j).trans (ho l)) fun d => X (ix3 l d j)

/-- The choice by layer between weights reversed in their last axis and the weights, at an element. -/
theorem pickO (o : IVec S10 1) (ho : ∀ l : Fin 10, o (ix1 l) = if l.val % 2 = 1 then 1#1 else 0#1) (X : FVec Ideal S10x32x3 .f32)
    (l : Fin 10) (j : Fin 32) (d : Fin 3) :
    select (broadcastInDim S10x32x3 ![0, 1, 2] bcast_S10x1x1_S10x32x3_0_1_2 (broadcastInDim S10x1x1 ![0] bcast_S10_S10x1x1_0 o))
      (Host.reverse [2] X) X (ix3 l j d) = X (ix3 l j (flip l d)) := by
  rw [select_apply, rev_last]
  exact pick_flip l d _ ((bit3_apply (by decide) o _ _ l j d).trans (ho l)) fun d => X (ix3 l j d)

/-- The choice by layer between biases reversed in their last axis and the biases, at an element. -/
theorem pickB (o : IVec S10 1) (ho : ∀ l : Fin 10, o (ix1 l) = if l.val % 2 = 1 then 1#1 else 0#1) (X : FVec Ideal S10x3 .f32)
    (l : Fin 10) (d : Fin 3) :
    select (broadcastInDim S10x3 ![0, 1] bcast_S10x1_S10x3_0_1 (broadcastInDim S10x1 ![0] bcast_S10_S10x1_0 o))
      (Host.reverse [1] X) X (ix2 l d) = X (ix2 l (flip l d)) := by
  rw [select_apply, rev_row]
  exact pick_flip l d _ ((bit2_apply (by decide) o _ _ l d).trans (ho l)) fun d => X (ix2 l d)

theorem k16_apply (l : Fin 10) (d : Fin 3) (j : Fin 32) :
    k16 m c (ix3 l d j) = a9 m c (ix3 l (flip l d) j) * maskH (flip l d) j := by
  rw [k16_eq, pickH _ (odd_apply m c), k7_eq, maskedH]

theorem k19_apply (l : Fin 10) (j : Fin 32) (d : Fin 3) :
    k19 m c (ix3 l j d) = a11 m c (ix3 l j (flip l d)) * maskO j (flip l d) := by
  rw [k19_eq, pickO _ (odd_apply m c), k10_eq, maskedO]

theorem k22_apply (l : Fin 10) (j : Fin 32) (d : Fin 3) :
    k22 m c (ix3 l j d) = a13 m c (ix3 l j (flip l d)) * maskO j (flip l d) := by
  rw [k22_eq, pickO _ (odd_apply m c), k13_eq, maskedO]

theorem k25_apply (l : Fin 10) (d : Fin 3) : k25 m c (ix2 l d) = a12 m c (ix2 l (flip l d)) := by
  rw [k25_eq, pickB _ (odd_apply m c)]

theorem k28_apply (l : Fin 10) (d : Fin 3) : k28 m c (ix2 l d) = a14 m c (ix2 l (flip l d)) := by
  rw [k28_eq, pickB _ (odd_apply m c)]

theorem k35_apply (l : Fin 10) (j : Fin 32) (d : Fin 3) : k35 m c (ix3 l j d) =
    a9 m c (ix3 l (flip l d) j) * maskH (flip l d) j := by
  rw [k35_eq, ← k16_apply]
  exact transpose_ix3_021_apply _ _ l j d

theorem k45_apply (l : Fin 10) (j : Fin 32) : k45 m c (ix3 l j 0) =
    a10 m c (ix2 l j) := by
  rw [k45_eq]
  refine shapeCast_apply _ _ _ _ ?_
  rw [Shape.rowMajor_val_three, Shape.rowMajor_val_two]
  show l.val * 32 + j.val = (l.val * 32 + j.val) * 1 + 0
  omega

theorem k39_lo (l : Fin 10) (d : Fin 3) (j : Fin 32) : k39 m c (ix3 l (lo d) j) =
    a11 m c (ix3 l j (flip l d)) * maskO j (flip l d) := by
  rw [k39_eq, ← k19_apply]
  refine (concatenate_apply_piece 1 _ _ (ix3 l (lo d) j) 0 (by show 0 < 4; decide) S10x3x32 _ rfl rfl 0 rfl (ix3 l d j) (fun b hb => ?_) ?_).trans
    (transpose_ix3_021_apply _ _ l d j)
  · match b, hb with
    | ⟨0, _⟩, _ => rfl
    | ⟨1, _⟩, hb => exact (hb rfl).elim
    | ⟨2, _⟩, _ => rfl
  · exact Nat.zero_add _

theorem k39_hi (l : Fin 10) (d : Fin 3) (j : Fin 32) : k39 m c (ix3 l (hi d) j) =
    a13 m c (ix3 l j (flip l d)) * maskO j (flip l d) := by
  rw [k39_eq, ← k22_apply]
  refine (concatenate_apply_piece 1 _ _ (ix3 l (hi d) j) 2 (by show 2 < 4; decide) S10x3x32 _ rfl rfl 8 rfl (ix3 l d j) (fun b hb => ?_) ?_).trans
    (transpose_ix3_021_apply _ _ l d j)
  · match b, hb with
    | ⟨0, _⟩, _ => rfl
    | ⟨1, _⟩, hb => exact (hb rfl).elim
    | ⟨2, _⟩, _ => rfl
  · rfl

/-- A column of sixteen per layer cast to a stack of one-wide matrices. -/
theorem col16_apply (x : FVec Ideal S10x16 .f32) (h : S10x16.ShapeCasts S10x16x1) (l : Fin 10) (o : Fin 16) :
    shapeCast S10x16x1 x h (ix3 l o 0) = x (ix2 l o) := by
  refine shapeCast_apply _ _ _ _ ?_
  rw [Shape.rowMajor_val_three, Shape.rowMajor_val_two]
  show l.val * 16 + o.val = (l.val * 16 + o.val) * 1 + 0
  omega

theorem k46_lo (l : Fin 10) (d : Fin 3) : k46 m c (ix3 l (lo d) 0) =
    a12 m c (ix2 l (flip l d)) := by
  rw [k46_eq, ← k25_apply, col16_apply]
  refine concatenate_apply_piece 1 _ _ (ix2 l (lo d)) 0 (by show 0 < 4; decide) S10x3 _ rfl rfl 0 rfl (ix2 l d) (fun b hb => ?_) ?_
  · match b, hb with
    | ⟨0, _⟩, _ => rfl
    | ⟨1, _⟩, hb => exact (hb rfl).elim
  · exact Nat.zero_add _

theorem k46_hi (l : Fin 10) (d : Fin 3) : k46 m c (ix3 l (hi d) 0) =
    a14 m c (ix2 l (flip l d)) := by
  rw [k46_eq, ← k28_apply, col16_apply]
  refine concatenate_apply_piece 1 _ _ (ix2 l (hi d)) 2 (by show 2 < 4; decide) S10x3 _ rfl rfl 8 rfl (ix2 l d) (fun b hb => ?_) ?_
  · match b, hb with
    | ⟨0, _⟩, _ => rfl
    | ⟨1, _⟩, hb => exact (hb rfl).elim
  · rfl

theorem flip_even {l : Fin 10} (h : l.val % 2 = 0) (d : Fin 3) : flip l d = d := if_neg (by omega)
theorem flip_odd {l : Fin 10} (h : l.val % 2 = 1) (d : Fin 3) : flip l d = d.rev := if_pos h

section
variable {x7 : FVec Ideal S10x32x3 .f32} {x8 : FVec Ideal S10x32x1 .f32} {x9 : FVec Ideal S10x16x32 .f32} {x10 : FVec Ideal S10x16x1 .f32}
  {A9 : FVec Ideal S10x3x32 .f32} {A10 : FVec Ideal S10x32 .f32} {A11 A13 : FVec Ideal S10x32x3 .f32} {A12 A14 : FVec Ideal S10x3 .f32}
  (hw : ∀ l j d, x7 (ix3 l j d) = A9 (ix3 l (flip l d) j) * maskH (flip l d) j) (hb : ∀ l j, x8 (ix3 l j 0) = A10 (ix2 l j))
  (hm : ∀ l d j, x9 (ix3 l (lo d) j) = A11 (ix3 l j (flip l d)) * maskO j (flip l d))
  (ha : ∀ l d j, x9 (ix3 l (hi d) j) = A13 (ix3 l j (flip l d)) * maskO j (flip l d))
  (hc : ∀ l d, x10 (ix3 l (lo d) 0) = A12 (ix2 l (flip l d))) (he : ∀ l d, x10 (ix3 l (hi d) 0) = A14 (ix2 l (flip l d)))
include hw hb hm ha hc he

/-- Weights that are the flipped masked ones are the plain ones in an even layer. -/
theorem kls_even (l : Fin 10) (h : l.val % 2 = 0) : Even (Body.kls x7 x8 x9 x10 l) (lay A9 A10 A11 A12 A13 A14 l) where
  w j d := (hw l j d).trans (by rw [flip_even h]; rfl)
  b j := hb l j
  m d j := (hm l d j).trans (by rw [flip_even h]; rfl)
  a d j := (ha l d j).trans (by rw [flip_even h]; rfl)
  c d := (hc l d).trans (by rw [flip_even h]; rfl)
  e d := (he l d).trans (by rw [flip_even h]; rfl)

/-- Weights that are the flipped masked ones are the reversed ones in an odd layer. -/
theorem kls_odd (l : Fin 10) (h : l.val % 2 = 1) : Odd (Body.kls x7 x8 x9 x10 l) (lay A9 A10 A11 A12 A13 A14 l) where
  w j d := (hw l j d).trans (by rw [flip_odd h]; rfl)
  b j := hb l j
  m d j := (hm l d j).trans (by rw [flip_odd h]; rfl)
  a d j := (ha l d j).trans (by rw [flip_odd h]; rfl)
  c d := (hc l d).trans (by rw [flip_odd h]; rfl)
  e d := (he l d).trans (by rw [flip_odd h]; rfl)

/-- Ten layers of such weights are the flow. -/
theorem kls_flow (x : Fin 3 → EReal) : kflow (Body.kls x7 x8 x9 x10) x = flow (lay A9 A10 A11 A12 A13 A14) x :=
  kflow_eq (kls_even hw hb hm ha hc he) (kls_odd hw hb hm ha hc he) (fun l j => lay_wh_two _ _ _ _ _ _ l j) x
end

/-- The kernel's ten layers are the reference's flow. -/
theorem flow_eq (x : Fin 3 → EReal) : kflow (Body.kls (k35 m c) (k45 m c) (k39 m c) (k46 m c)) x =
    flow (lay (a9 m c) (a10 m c) (a11 m c) (a12 m c) (a13 m c) (a14 m c)) x :=
  kls_flow (k35_apply m c) (k45_apply m c) (k39_lo m c) (k39_hi m c) (k46_lo m c) (k46_hi m c) x

/-! ## The encoder's weights -/

theorem k29_apply (j : Fin 64) (i : Fin 4) : k29 m c (ix2 j i) = a1 m c (ix2 i j) := by
  rw [k29_eq]; exact transpose_ix2_apply _ _ j i

theorem k42_apply (j : Fin 64) : k42 m c (ix2 j 0) = a2 m c (ix1 j) := by
  rw [k42_eq]; exact shapeCast_a_a1_apply _ _ j 0

theorem k30_apply (k : Fin 32) (j : Fin 64) : k30 m c (ix2 k j) = a3 m c (ix2 j k) := by
  rw [k30_eq]; exact transpose_ix2_apply _ _ k j

theorem k43_apply (k : Fin 32) : k43 m c (ix2 k 0) = a4 m c (ix1 k) := by
  rw [k43_eq]; exact shapeCast_a_a1_apply _ _ k 0

theorem k34_apply (d : Fin 3) (k : Fin 32) : k34 m c (ix2 d k) = ∑ i, a5 m c (ix2 k i) * a7 m c (ix2 i d) := by
  rw [k34_eq]
  exact (transpose_ix2_apply _ _ d k).trans (StackMember.dotGeneral_plain_apply none (a5 m c) (a7 m c) k d)

/-- A row times a matrix, at an element. -/
theorem row_dot (A : FVec Ideal S8 .f32) (B : FVec Ideal S8x3 .f32) (d : Fin 3) :
    (Host.dotGeneral dot_S8_S8x3_S3_0_0_n_1_n_n none A B : FVec Ideal S3 .f32) (ix1 d) = ∑ i, A (ix1 i) * B (ix2 i d) := by
  show FloatOps.dotGeneral _ none _ A B (ix1 d) = _
  rw [Ideal.dotGeneral_apply, ← Equiv.sum_comp (contrEquiv1 dot_S8_S8x3_S3_0_0_n_1_n_n 8 rfl rfl).symm]
  refine Finset.sum_congr rfl fun i _ => ?_
  have hl : dot_S8_S8x3_S3_0_0_n_1_n_n.lhsIdx (ix1 d) ((contrEquiv1 dot_S8_S8x3_S3_0_0_n_1_n_n 8 rfl rfl).symm i) = ix1 i := by
    funext x
    match x with
    | ⟨0, _⟩ => exact Fin.ext (contrEquiv1_symm_val dot_S8_S8x3_S3_0_0_n_1_n_n 8 rfl rfl i)
  have hr : dot_S8_S8x3_S3_0_0_n_1_n_n.rhsIdx (ix1 d) ((contrEquiv1 dot_S8_S8x3_S3_0_0_n_1_n_n 8 rfl rfl).symm i) = ix2 i d := by
    funext x
    match x with
    | ⟨0, _⟩ => exact Fin.ext (contrEquiv1_symm_val dot_S8_S8x3_S3_0_0_n_1_n_n 8 rfl rfl i)
    | ⟨1, _⟩ => exact Fin.ext rfl
  rw [hl, hr]

theorem k44_apply (d : Fin 3) : k44 m c (ix2 d 0) = ∑ i, a6 m c (ix1 i) * a7 m c (ix2 i d) + a8 m c (ix1 d) := by
  rw [k44_eq]
  refine (shapeCast_a_a1_apply _ _ d 0).trans ?_
  rw [addf_apply, row_dot]

/-- The kernel's encoder is the reference's, the last two maps made one. -/
theorem kenc_eq (s : Fin 4 → EReal) (d : Fin 3) : Body.kenc (k29 m c) (k42 m c) (k30 m c) (k43 m c) (k34 m c) (k44 m c) s d =
    kproj (enc2 (enc1 s (fun i j => a1 m c (ix2 i j)) fun j => a2 m c (ix1 j)) (fun j k => a3 m c (ix2 j k)) fun k => a4 m c (ix1 k))
      (fun k i => a5 m c (ix2 k i)) (fun i => a6 m c (ix1 i)) (fun i d => a7 m c (ix2 i d)) (fun d => a8 m c (ix1 d)) d := by
  simp only [Body.kenc, kproj, enc2, enc1, k29_apply, k42_apply, k30_apply, k43_apply, k34_apply, k44_apply, mul_comm (a3 m c _),
    mul_comm (a1 m c _)]

/-! ## The rows -/

/-- A column of the padded rows inside the batch is that row. -/
theorem k50_apply (i : Fin 4) (r : Fin 2000000) : k50 m c (ix2 i ⟨r.val, by omega⟩) = a0 m c (ix2 r i) := by
  rw [k50_eq]
  have lands : ∀ q : S4x2000000.Idx, scatter_S4x2015232_S1_S4x2000000_01_n_1_0.resultIdx? q
      (broadcastInDim S1 ![] bcast_S_S1 (constantI S_ 32 0#32)) = some (ix2 i ⟨r.val, by omega⟩) ↔ q = ix2 i r := fun q => by
    obtain ⟨a, b, rfl⟩ : ∃ a b, q = ix2 a b := ⟨q 0, q 1, eq_ix2 q⟩
    rw [Routing.resultIdx?_ix2]
    show (0 : Int) + (a.val : Int) = i.val ∧ (0 : Int) + (b.val : Int) = r.val ↔ _
    constructor
    · rintro ⟨h₁, h₂⟩
      rw [show a = i from Fin.ext (by omega), show b = r from Fin.ext (by omega)]
    · intro h
      exact ⟨by rw [show a = i from congrFun h 0]; exact Int.zero_add _, by rw [show b = r from congrFun h 1]; exact Int.zero_add _⟩
  rw [Routing.scatter_set_hit _ _ _ _ _ (a0 m c (ix2 r i)) (fun q hq => ?_) (ix2 i r) ((lands _).2 rfl)]
  rw [(lands q).1 hq]
  exact transpose_ix2_apply _ _ i r

end Cert.Proof.Host
end
-- ==== Proof.KernelArray.lean ====
/- The array the region leaves, and the kernel's result read from it: each grid point's block is one run of columns, every
   column is its row's value, and the host's slice and transpose put the rows back. -/
module

public import proofs.«01_k».proof.Proof.KernelReads
public import Idealize.ShloMosaic.Lib.Pipeline.ValueKit

@[expose] public section

noncomputable section

open scoped BigOperators

namespace Cert.Proof.Host

open Idealize.ShloMosaic hiding ix1 ix2 ix3 ix4
open Idealize.ShloMosaic.ValueIdx Cert.KernelIdeal Cert.KernelIdeal.Gen Idealize.ShloMosaic.TcCoe
  Cert.Proof.Spec

variable (m : (ℓ : Loc nD τ sig) → Buf (Elt Ideal) ℓ) (c : Dev nD)

/-! ## Where each block lies -/

theorem idx0 : ∀ t : Fin cfg0.N, win0_0.index t = ![0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0, 0] := (by decide +kernel : ∀ t : Fin grid0.N, _)
theorem idx9 : ∀ t : Fin cfg0.N, win0_9.index t = ![0, 0, 0] := (by decide +kernel : ∀ t : Fin grid0.N, _)
theorem idx10 : ∀ t : Fin cfg0.N, win0_10.index t = ![0, 0, 0] := (by decide +kernel : ∀ t : Fin grid0.N, _)
theorem idx11 : ∀ t : Fin cfg0.N, win0_11.index t = ![0, t.val] := (by decide +kernel : ∀ t : Fin grid0.N, _)

/-! Each weight's block is the whole array, at every point. -/

theorem emb1 (t : Fin cfg0.N) (j : S64x4.Idx) : (win0_1.blk t).view.emb j = j := by blk_ext [idx1]
theorem read1 (t : Fin cfg0.N) (X : Vec Ideal S64x4 .f32) : (show Vec Ideal S64x4 .f32 from ((cfg0.win 1).blk t).view.read (Elt Ideal) X) = X :=
  funext fun j => congrArg X (emb1 t j)
theorem blk1 (t : Fin cfg0.N) : (show Vec Ideal S64x4 .f32 from iblk m c 1 t) = k29 m c := read1 t (k29 m c)
theorem emb2 (t : Fin cfg0.N) (j : S64x1.Idx) : (win0_2.blk t).view.emb j = j := by blk_ext [idx2]
theorem read2 (t : Fin cfg0.N) (X : Vec Ideal S64x1 .f32) : (show Vec Ideal S64x1 .f32 from ((cfg0.win 2).blk t).view.read (Elt Ideal) X) = X :=
  funext fun j => congrArg X (emb2 t j)
theorem blk2 (t : Fin cfg0.N) : (show Vec Ideal S64x1 .f32 from iblk m c 2 t) = k42 m c := read2 t (k42 m c)
theorem emb3 (t : Fin cfg0.N) (j : S32x64.Idx) : (win0_3.blk t).view.emb j = j := by blk_ext [idx3]
theorem read3 (t : Fin cfg0.N) (X : Vec Ideal S32x64 .f32) : (show Vec Ideal S32x64 .f32 from ((cfg0.win 3).blk t).view.read (Elt Ideal) X) = X :=
  funext fun j => congrArg X (emb3 t j)
theorem blk3 (t : Fin cfg0.N) : (show Vec Ideal S32x64 .f32 from iblk m c 3 t) = k30 m c := read3 t (k30 m c)
theorem emb4 (t : Fin cfg0.N) (j : S32x1.Idx) : (win0_4.blk t).view.emb j = j := by blk_ext [idx4]
theorem read4 (t : Fin cfg0.N) (X : Vec Ideal S32x1 .f32) : (show Vec Ideal S32x1 .f32 from ((cfg0.win 4).blk t).view.read (Elt Ideal) X) = X :=
  funext fun j => congrArg X (emb4 t j)
theorem blk4 (t : Fin cfg0.N) : (show Vec Ideal S32x1 .f32 from iblk m c 4 t) = k43 m c := read4 t (k43 m c)
theorem emb5 (t : Fin cfg0.N) (j : S3x32.Idx) : (win0_5.blk t).view.emb j = j := by blk_ext [idx5]
theorem read5 (t : Fin cfg0.N) (X : Vec Ideal S3x32 .f32) : (show Vec Ideal S3x32 .f32 from ((cfg0.win 5).blk t).view.read (Elt Ideal) X) = X :=
  funext fun j => congrArg X (emb5 t j)
theorem blk5 (t : Fin cfg0.N) : (show Vec Ideal S3x32 .f32 from iblk m c 5 t) = k34 m c := read5 t (k34 m c)
theorem emb6 (t : Fin cfg0.N) (j : S3x1.Idx) : (win0_6.blk t).view.emb j = j := by blk_ext [idx6]
theorem read6 (t : Fin cfg0.N) (X : Vec Ideal S3x1 .f32) : (show Vec Ideal S3x1 .f32 from ((cfg0.win 6).blk t).view.read (Elt Ideal) X) = X :=
  funext fun j => congrArg X (emb6 t j)
theorem blk6 (t : Fin cfg0.N) : (show Vec Ideal S3x1 .f32 from iblk m c 6 t) = k44 m c := read6 t (k44 m c)
theorem emb7 (t : Fin cfg0.N) (j : S10x32x3.Idx) : (win0_7.blk t).view.emb j = j := by blk_ext [idx7]
theorem read7 (t : Fin cfg0.N) (X : Vec Ideal S10x32x3 .f32) : (show Vec Ideal S10x32x3 .f32 from ((cfg0.win 7).blk t).view.read (Elt Ideal) X) = X :=
  funext fun j => congrArg X (emb7 t j)
theorem blk7 (t : Fin cfg0.N) : (show Vec Ideal S10x32x3 .f32 from iblk m c 7 t) = k35 m c := read7 t (k35 m c)
theorem emb8 (t : Fin cfg0.N) (j : S10x32x1.Idx) : (win0_8.blk t).view.emb j = j := by blk_ext [idx8]
theorem read8 (t : Fin cfg0.N) (X : Vec Ideal S10x32x1 .f32) : (show Vec Ideal S10x32x1 .f32 from ((cfg0.win 8).blk t).view.read (Elt Ideal) X) = X :=
  funext fun j => congrArg X (emb8 t j)
theorem blk8 (t : Fin cfg0.N) : (show Vec Ideal S10x32x1 .f32 from iblk m c 8 t) = k45 m c := read8 t (k45 m c)
theorem emb9 (t : Fin cfg0.N) (j : S10x16x32.Idx) : (win0_9.blk t).view.emb j = j := by blk_ext [idx9]
theorem read9 (t : Fin cfg0.N) (X : Vec Ideal S10x16x32 .f32) : (show Vec Ideal S10x16x32 .f32 from ((cfg0.win 9).blk t).view.read (Elt Ideal) X) = X :=
  funext fun j => congrArg X (emb9 t j)
theorem blk9 (t : Fin cfg0.N) : (show Vec Ideal S10x16x32 .f32 from iblk m c 9 t) = k39 m c := read9 t (k39 m c)
theorem emb10 (t : Fin cfg0.N) (j : S10x16x1.Idx) : (win0_10.blk t).view.emb j = j := by blk_ext [idx10]
theorem read10 (t : Fin cfg0.N) (X : Vec Ideal S10x16x1 .f32) : (show Vec Ideal S10x16x1 .f32 from ((cfg0.win 10).blk t).view.read (Elt Ideal) X) = X :=
  funext fun j => congrArg X (emb10 t j)
theorem blk10 (t : Fin cfg0.N) : (show Vec Ideal S10x16x1 .f32 from iblk m c 10 t) = k46 m c := read10 t (k46 m c)

/-! A block of rows holds the columns from `8192 t` on. -/

theorem emb0 (t : Fin cfg0.N) (i : Fin 4) (e : Fin 8192) (he : t.val * 8192 + e.val < 2015232) :
    (win0_0.blk t).view.emb (ix2 i e) = (ix2 i ⟨t.val * 8192 + e.val, he⟩ : S4x2015232.Idx) := by
  blk_ext [idx0]
theorem read0 (t : Fin cfg0.N) (X : Vec Ideal S4x2015232 .f32) (j : S4x8192.Idx) :
    (show Vec Ideal S4x8192 .f32 from ((cfg0.win 0).blk t).view.read (Elt Ideal) X) j = X ((win0_0.blk t).view.emb j) := rfl
theorem blk0 (t : Fin cfg0.N) (i : Fin 4) (e : Fin 8192) (he : t.val * 8192 + e.val < 2015232) :
    (show Vec Ideal S4x8192 .f32 from iblk m c 0 t) (ix2 i e) = k50 m c (ix2 i ⟨t.val * 8192 + e.val, he⟩) :=
  (read0 t (k50 m c) (ix2 i e)).trans (congrArg (k50 m c) (emb0 t i e he))

/-! ## The region's result -/

/-- The region's result, at every column: the row's value. -/
def G : FVec Ideal S3x2015232 .f32 := fun i =>
  out tau (kflow (Body.kls (k35 m c) (k45 m c) (k39 m c) (k46 m c))
    (Body.kenc (k29 m c) (k42 m c) (k30 m c) (k43 m c) (k34 m c) (k44 m c) fun a => k50 m c (ix2 a (i 1)))) (i 0)

/-- The block's result at a column, its eleven inputs known. -/
theorem body_read {x0 : Vec Ideal S4x8192 .f32} {x1 y1 : Vec Ideal S64x4 .f32} {x2 y2 : Vec Ideal S64x1 .f32} {x3 y3 : Vec Ideal S32x64 .f32}
    {x4 y4 : Vec Ideal S32x1 .f32} {x5 y5 : Vec Ideal S3x32 .f32} {x6 y6 : Vec Ideal S3x1 .f32} {x7 y7 : Vec Ideal S10x32x3 .f32}
    {x8 y8 : Vec Ideal S10x32x1 .f32} {x9 y9 : Vec Ideal S10x16x32 .f32} {x10 y10 : Vec Ideal S10x16x1 .f32} {e : Fin 8192} {s : Fin 4 → EReal}
    (h0 : ∀ a, x0 (ix2 a e) = s a) (h1 : x1 = y1) (h2 : x2 = y2) (h3 : x3 = y3) (h4 : x4 = y4) (h5 : x5 = y5) (h6 : x6 = y6) (h7 : x7 = y7)
    (h8 : x8 = y8) (h9 : x9 = y9) (h10 : x10 = y10) (d : Fin 3) :
    out0_11 x0 x1 x2 x3 x4 x5 x6 x7 x8 x9 x10 (ix2 d e) = out tau (kflow (Body.kls y7 y8 y9 y10) (Body.kenc y1 y2 y3 y4 y5 y6 s)) d := by
  subst h1 h2 h3 h4 h5 h6 h7 h8 h9 h10
  rw [← funext h0]
  exact Body.body_apply ..

theorem point (t : Fin cfg0.N) (d : Fin 3) (e : Fin 8192) (he : t.val * 8192 + e.val < 2015232) :
    out0_11 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 d e) = G m c (ix2 d ⟨t.val * 8192 + e.val, he⟩) :=
  body_read (fun a => blk0 m c t a e he) (blk1 m c t) (blk2 m c t) (blk3 m c t) (blk4 m c t) (blk5 m c t) (blk6 m c t) (blk7 m c t)
    (blk8 m c t) (blk9 m c t) (blk10 m c t) d

end Cert.Proof.Host
end
-- ==== Proof.KernelResult.lean ====
/- The array the region leaves, and the kernel's result read from it by the host's slice and transpose. -/
module

public import proofs.«01_k».proof.Proof.KernelArray

@[expose] public section

noncomputable section

open scoped BigOperators

namespace Cert.Proof.Host

open Idealize.ShloMosaic hiding ix1 ix2 ix3 ix4
open Idealize.ShloMosaic.ValueIdx Cert.KernelIdeal Cert.KernelIdeal.Gen Idealize.ShloMosaic.TcCoe
  Cert.Proof.Spec

variable (m : (ℓ : Loc nD τ sig) → Buf (Elt Ideal) ℓ) (c : Dev nD)

theorem emb11 (t : Fin cfg0.N) (d : Fin 3) (e : Fin 8192) (he : t.val * 8192 + e.val < 2015232) :
    (win0_11.blk t).view.emb (ix2 d e) = (ix2 d ⟨t.val * 8192 + e.val, he⟩ : S3x2015232.Idx) := by
  blk_ext [idx11]

theorem col_lt (t : Fin cfg0.N) (e : Fin 8192) : t.val * 8192 + e.val < 2015232 := by
  have h : t.val < 246 := t.isLt
  omega

theorem final : (dats m 0 c).arrAt 11 cfg0.N = G m c := by
  refine (dats m 0 c).arrAt_eq_of_covers 11 _ (by decide +kernel) fun t hf y => ?_
  blk_simp
  rw [after0_11]
  exact (congrArg (out0_11 (iblk m c 0 t) (iblk m c 1 t) (iblk m c 2 t) (iblk m c 3 t) (iblk m c 4 t) (iblk m c 5 t) (iblk m c 6 t)
      (iblk m c 7 t) (iblk m c 8 t) (iblk m c 9 t) (iblk m c 10 t)) (ValueIdx.eq_ix2 (n0 := 3) (n1 := 8192) y)).trans
    ((point m c t (y 0) (y 1) (col_lt t (y 1))).trans
      (congrArg (G m c) ((emb11 t (y 0) (y 1) (col_lt t (y 1))).symm.trans
        (congrArg (win0_11.blk t).view.emb (ValueIdx.eq_ix2 (n0 := 3) (n1 := 8192) y).symm))))

/-! ## The kernel's result -/

/-- The result: the region's array cut to the batch and transposed. -/
theorem res_eq : (Pipeline.afterTail₀ cfgs (dats m) 0 (V0 m) [hostOps1] c main_v53 : FVec Ideal S2000000x3 .f32) =
    transpose S2000000x3 [1, 0] (extractStridedSlice S3x2000000 ![0, 0] (G m c) slices_S3x2015232_S3x2000000_0_0)
      transposes_S3x2000000_S2000000x3_1_0 := by
  unfold Pipeline.afterTail₀
  after_reads_simp
  exact congrArg (fun X : FVec Ideal S3x2015232 .f32 => transpose S2000000x3 [1, 0] (extractStridedSlice S3x2000000 ![0, 0] X
      slices_S3x2015232_S3x2000000_0_0) transposes_S3x2000000_S2000000x3_1_0)
    ((Pipeline.withArrays_arr (cfgs 0).spec (by decide) c (V0 m c) (fun w => (dats m 0 c).arrAt w (cfgs 0).N) 11).trans (final m c))

/-- The result at an element: the reference's row, in the kernel's order of the encoder. -/
theorem res_apply (r : Fin 2000000) (d : Fin 3) :
    (Pipeline.afterTail₀ cfgs (dats m) 0 (V0 m) [hostOps1] c main_v53 : FVec Ideal S2000000x3 .f32) (ix2 r d) =
      out tau (flow (lay (a9 m c) (a10 m c) (a11 m c) (a12 m c) (a13 m c) (a14 m c))
        (kproj (enc2 (enc1 (fun i => a0 m c (ix2 r i)) (fun i j => a1 m c (ix2 i j)) fun j => a2 m c (ix1 j)) (fun j k => a3 m c (ix2 j k)) fun k => a4 m c (ix1 k))
          (fun k i => a5 m c (ix2 k i)) (fun i => a6 m c (ix1 i)) (fun i d => a7 m c (ix2 i d)) (fun d => a8 m c (ix1 d)))) d := by
  rw [res_eq]
  refine (transpose_ix2_apply _ _ r d).trans ?_
  refine (extractStridedSlice_apply _ _ _ (ix2 d r) (ix2 d ⟨r.val, by omega⟩) fun a => ?_).trans ?_
  · match a with
    | ⟨0, _⟩ => exact (Nat.zero_add _).symm
    | ⟨1, _⟩ => exact (Nat.zero_add _).symm
  · show out tau (kflow _ _) d = _
    rw [flow_eq, ← funext (kenc_eq m c fun i => a0 m c (ix2 r i))]
    simp only [← k50_apply m c]

/-- What the kernel leaves: its result array, and every argument as it was. -/
theorem run (ρ : Dev nD → PrngReg) : θ_run defs (onTc main) (s₀ m ρ) (fun r => ∀ c : Dev nD,
    r.2.mem ((c.tc : Thread nD τ).loc main_v53) = Pipeline.afterTail₀ cfgs (dats m) 0 (V0 m) [hostOps1] c main_v53) :=
  (θ_run defs _ _).mono (fun _ h c => h.rest_eq c main_v53 (by decide)) (run_main m ρ)

end Cert.Proof.Host
end
-- ==== Proof.RefValue.lean ====
/- The reference's result at an element: its masks, its encoder and its ten layers, each read once at a row, and the
   three columns put side by side. -/
module

public import proofs.«01_k».proof.Proof.Rows
public import proofs.«01_k».proof.Proof.Gen.ReferenceIdeal.Run
public import Idealize.ShloMosaic.Lib.StackMember
public import Idealize.ShloMosaic.Lib.IdealHost
public import Idealize.ShloMosaic.Lib.ValueIdx
public import Idealize.ShloMosaic.Lib.ValueLayout
public import Idealize.ShloMosaic.Lib.Pipeline.Value

@[expose] public section

noncomputable section

open scoped BigOperators

namespace Cert.Proof.Ref

open Idealize.ShloMosaic Idealize.ShloMosaic.ValueIdx Cert.ReferenceIdeal Cert.ReferenceIdeal.Gen Cert.ReferenceIdeal.Value Cert.Proof.Spec

/-! ## The shape operations at an element -/

/-- A vector repeated along the rows reads the vector. -/
theorem brow {α : Type} {a b : ℕ} (hb : b ≠ 1) (v : (⟨1, ![b]⟩ : Shape).Idx → α) (h₁ : (⟨1, ![b]⟩ : Shape).BroadcastsInDim ⟨2, ![1, b]⟩ ![1])
    (h₂ : (⟨2, ![1, b]⟩ : Shape).BroadcastsInDim ⟨2, ![a, b]⟩ ![0, 1]) (r : Fin a) (d : Fin b) :
    broadcastInDim ⟨2, ![a, b]⟩ ![0, 1] h₂ (broadcastInDim ⟨2, ![1, b]⟩ ![1] h₁ v) (ix2 r d) = v (ix1 d) := by
  refine (broadcastInDim_apply _ h₂ _ (ix2 r d) (ix2 (0 : Fin 1) d) fun x => ?_).trans
    (broadcastInDim_apply _ h₁ v (ix2 (0 : Fin 1) d) (ix1 d) fun x => ?_)
  · match x with
    | ⟨0, _⟩ => exact (if_pos rfl).symm
    | ⟨1, _⟩ => exact (if_neg hb).symm
  · match x with
    | ⟨0, _⟩ => exact (if_neg hb).symm

/-- One matrix of a stack. -/
theorem cut3 {α : Type} {n p q l : ℕ} (hl : l < n) (A : (⟨3, ![n, p, q]⟩ : Shape).Idx → α)
    (h : (⟨3, ![n, p, q]⟩ : Shape).Slices ![l, 0, 0] ⟨3, ![1, p, q]⟩) (h' : (⟨3, ![1, p, q]⟩ : Shape).ShapeCasts ⟨2, ![p, q]⟩)
    (a : Fin p) (b : Fin q) :
    shapeCast ⟨2, ![p, q]⟩ (extractStridedSlice ⟨3, ![1, p, q]⟩ ![l, 0, 0] A h) h' (ix2 a b) = A (ix3 ⟨l, hl⟩ a b) := by
  refine (shapeCast_1ab_ab_apply _ h' a b).trans (extractStridedSlice_apply _ _ _ _ _ fun x => ?_)
  match x with
  | ⟨0, _⟩ => exact (Nat.add_zero _).symm
  | ⟨1, _⟩ => exact (Nat.zero_add _).symm
  | ⟨2, _⟩ => exact (Nat.zero_add _).symm

/-- One row of a stack. -/
theorem cut2 {α : Type} {n p l : ℕ} (hl : l < n) (A : (⟨2, ![n, p]⟩ : Shape).Idx → α)
    (h : (⟨2, ![n, p]⟩ : Shape).Slices ![l, 0] ⟨2, ![1, p]⟩) (h' : (⟨2, ![1, p]⟩ : Shape).ShapeCasts ⟨1, ![p]⟩) (a : Fin p) :
    shapeCast ⟨1, ![p]⟩ (extractStridedSlice ⟨2, ![1, p]⟩ ![l, 0] A h) h' (ix1 a) = A (ix2 ⟨l, hl⟩ a) := by
  refine (shapeCast_1a_a_apply _ h' a).trans (extractStridedSlice_apply _ _ _ _ _ fun x => ?_)
  match x with
  | ⟨0, _⟩ => exact (Nat.add_zero _).symm
  | ⟨1, _⟩ => exact (Nat.zero_add _).symm

/-- A product of matrices, at an element. -/
theorem dot {m k n : ℕ} {D : DotDims ⟨2, ![m, k]⟩ ⟨2, ![k, n]⟩ ⟨2, ![m, n]⟩} (hD : D = DotDims.plain m k n)
    (A : FVec Ideal ⟨2, ![m, k]⟩ .f32) (B : FVec Ideal ⟨2, ![k, n]⟩ .f32) (r : Fin m) (c : Fin n) :
    (Host.dotGeneral D none A B : FVec Ideal ⟨2, ![m, n]⟩ .f32) (ix2 r c) = ∑ i, A (ix2 r i) * B (ix2 i c) := by
  subst hD
  exact StackMember.dotGeneral_plain_apply none A B r c

/-- A map of rows: a product and a bias. -/
theorem affine {m k n : ℕ} {D : DotDims ⟨2, ![m, k]⟩ ⟨2, ![k, n]⟩ ⟨2, ![m, n]⟩} (hD : D = DotDims.plain m k n) (hn : n ≠ 1)
    (A : FVec Ideal ⟨2, ![m, k]⟩ .f32) (B : FVec Ideal ⟨2, ![k, n]⟩ .f32) (v : FVec Ideal ⟨1, ![n]⟩ .f32)
    (h₁ : (⟨1, ![n]⟩ : Shape).BroadcastsInDim ⟨2, ![1, n]⟩ ![1]) (h₂ : (⟨2, ![1, n]⟩ : Shape).BroadcastsInDim ⟨2, ![m, n]⟩ ![0, 1])
    (r : Fin m) (c : Fin n) :
    addf (Host.dotGeneral D none A B) (broadcastInDim ⟨2, ![m, n]⟩ ![0, 1] h₂ (broadcastInDim ⟨2, ![1, n]⟩ ![1] h₁ v)) (ix2 r c)
      = ∑ i, A (ix2 r i) * B (ix2 i c) + v (ix1 c) :=
  congrArg₂ (fun x y : EReal => x + y) (dot hD A B r c) (brow hn v h₁ h₂ r c)

/-- The greater of an array and zero. -/
theorem relu {m n : ℕ} (X : FVec Ideal ⟨2, ![m, n]⟩ .f32) (h : S_.BroadcastsInDim ⟨2, ![m, n]⟩ ![]) (i : (⟨2, ![m, n]⟩ : Shape).Idx) :
    maximumf X (broadcastInDim ⟨2, ![m, n]⟩ ![] h (constant S_ .f32 0x00000000#32)) i = max (X i) 0 :=
  congrArg (max (X i)) ((broadcastInDim_scalar_apply h _ i).trans Ideal.ofBits_zero_f32)

/-! ## The masks -/

/-- A bit as an extended real. -/
theorem bit_real (b : BitVec 1) (p : Prop) [Decidable p] (h : b = if p then 1#1 else 0#1) : ((b.toNat : ℝ) : EReal) = if p then 1 else 0 := by
  subst h
  split <;> simp

theorem bits_in : ∀ (d : Fin 3) (j : Fin 32), cmpi .sge
    (broadcastInDim S3x32 ![0, 1] bcast_S1x32_S3x32_0_1 (broadcastInDim S1x32 ![1] bcast_S32_S1x32_1
      (addi (Host.remsi (iotaInDim S32 32 0) (broadcastInDim S32 ![] bcast_S_S32 (constantI S_ 32 2#32))) (broadcastInDim S32 ![] bcast_S_S32 (constantI S_ 32 1#32)))))
    (broadcastInDim S3x32 ![0, 1] bcast_S3x1_S3x32_0_1 (broadcastInDim S3x1 ![0] bcast_S3_S3x1_0
      (addi (iotaInDim S3 32 0) (broadcastInDim S3 ![] bcast_S_S3 (constantI S_ 32 1#32))))) (ix2 d j)
      = if d.val ≤ j.val % 2 then 1#1 else 0#1 := by
  decide +kernel

theorem bits_out : ∀ (j : Fin 32) (d : Fin 3), cmpi .sgt
    (broadcastInDim S32x3 ![0, 1] bcast_S1x3_S32x3_0_1 (broadcastInDim S1x3 ![1] bcast_S3_S1x3_1
      (addi (iotaInDim S3 32 0) (broadcastInDim S3 ![] bcast_S_S3 (constantI S_ 32 1#32)))))
    (broadcastInDim S32x3 ![0, 1] bcast_S32x1_S32x3_0_1 (broadcastInDim S32x1 ![0] bcast_S32_S32x1_0
      (addi (Host.remsi (iotaInDim S32 32 0) (broadcastInDim S32 ![] bcast_S_S32 (constantI S_ 32 2#32))) (broadcastInDim S32 ![] bcast_S_S32 (constantI S_ 32 1#32))))) (ix2 j d)
      = if j.val % 2 < d.val then 1#1 else 0#1 := by
  decide +kernel

variable (V : Valuation τ sig (Elt Ideal))

theorem mask_in (d : Fin 3) (j : Fin 32) : (res_main_v13 V : FVec Ideal S3x32 .f32) (ix2 d j) = maskH d j :=
  bit_real _ _ (bits_in d j)

theorem mask_out (j : Fin 32) (d : Fin 3) : (res_main_v19 V : FVec Ideal S32x3 .f32) (ix2 j d) = maskO j d :=
  bit_real _ _ (bits_out j d)

/-! ## The layers -/

/-- A layer's hidden units, as a function of whole arrays. -/
def hidT (M : FVec Ideal S3x32 .f32) (X : FVec Ideal S2000000x3 .f32) (w : FVec Ideal S3x32 .f32) (b : FVec Ideal S32 .f32) : FVec Ideal S2000000x32 .f32 :=
  maximumf (addf (Host.dotGeneral dot_S2000000x3_S3x32_S2000000x32_1_0_0_1_n_n none X (mulf w M))
    (broadcastInDim S2000000x32 ![0, 1] bcast_S1x32_S2000000x32_0_1 (broadcastInDim S1x32 ![1] bcast_S32_S1x32_1 b)))
    (broadcastInDim S2000000x32 ![] bcast_S_S2000000x32 (constant S_ .f32 0x00000000#32))

/-- A layer's output map, as a function of whole arrays. -/
def outT (M : FVec Ideal S32x3 .f32) (H : FVec Ideal S2000000x32 .f32) (w : FVec Ideal S32x3 .f32) (b : FVec Ideal S3 .f32) : FVec Ideal S2000000x3 .f32 :=
  addf (Host.dotGeneral dot_S2000000x32_S32x3_S2000000x3_1_0_0_1_n_n none H (mulf w M))
    (broadcastInDim S2000000x3 ![0, 1] bcast_S1x3_S2000000x3_0_1 (broadcastInDim S1x3 ![1] bcast_S3_S1x3_1 b))

/-- A layer, as a function of whole arrays. -/
def layT (M : FVec Ideal S32x3 .f32) (X : FVec Ideal S2000000x3 .f32) (H : FVec Ideal S2000000x32 .f32) (wm : FVec Ideal S32x3 .f32)
    (bm : FVec Ideal S3 .f32) (wa : FVec Ideal S32x3 .f32) (ba : FVec Ideal S3 .f32) : FVec Ideal S2000000x3 .f32 :=
  Host.reverse [1] (mulf (subf X (outT M H wm bm)) (Host.exp (Host.negf (Host.tanh (outT M H wa ba)))))

theorem hidT_apply (X : FVec Ideal S2000000x3 .f32) (w : FVec Ideal S3x32 .f32) (b : FVec Ideal S32 .f32) (r : Fin 2000000) (j : Fin 32) :
    hidT (res_main_v13 V) X w b (ix2 r j) = max (∑ d, X (ix2 r d) * (w (ix2 d j) * maskH d j) + b (ix1 j)) 0 := by
  unfold hidT
  refine (relu _ _ _).trans (congrArg (max · 0) ((affine rfl (by decide) _ _ _ _ _ r j).trans ?_))
  refine congrArg (fun s : EReal => s + b (ix1 j)) (Finset.sum_congr rfl fun d _ => ?_)
  exact congrArg (fun s : EReal => X (ix2 r d) * (w (ix2 d j) * s)) (mask_in V d j)

theorem outT_apply (H : FVec Ideal S2000000x32 .f32) (w : FVec Ideal S32x3 .f32) (b : FVec Ideal S3 .f32) (r : Fin 2000000) (d : Fin 3) :
    outT (res_main_v19 V) H w b (ix2 r d) = ∑ j, H (ix2 r j) * (w (ix2 j d) * maskO j d) + b (ix1 d) := by
  unfold outT
  refine (affine rfl (by decide) _ _ _ _ _ r d).trans ?_
  refine congrArg (fun s : EReal => s + b (ix1 d)) (Finset.sum_congr rfl fun j _ => ?_)
  exact congrArg (fun s : EReal => H (ix2 r j) * (w (ix2 j d) * s)) (mask_out V j d)

/-- The layer at an element, its weights given by their elements. -/
theorem layT_apply (X : FVec Ideal S2000000x3 .f32) (wh : FVec Ideal S3x32 .f32) (bh : FVec Ideal S32 .f32) (wm : FVec Ideal S32x3 .f32)
    (bm : FVec Ideal S3 .f32) (wa : FVec Ideal S32x3 .f32) (ba : FVec Ideal S3 .f32) (L : Layer)
    (h₁ : ∀ d j, L.wh d j = wh (ix2 d j) * maskH d j) (h₂ : ∀ j, L.bh j = bh (ix1 j)) (h₃ : ∀ j d, L.wm j d = wm (ix2 j d) * maskO j d)
    (h₄ : ∀ d, L.bm d = bm (ix1 d)) (h₅ : ∀ j d, L.wa j d = wa (ix2 j d) * maskO j d) (h₆ : ∀ d, L.ba d = ba (ix1 d))
    (r : Fin 2000000) (d : Fin 3) :
    layT (res_main_v19 V) X (hidT (res_main_v13 V) X wh bh) wm bm wa ba (ix2 r d) = L.run (fun d => X (ix2 r d)) d := by
  have hh : ∀ j, hidT (res_main_v13 V) X wh bh (ix2 r j) = L.hid (fun d => X (ix2 r d)) j := fun j => by
    rw [hidT_apply]
    simp only [Layer.hid, h₁, h₂]
  have ho : ∀ (w : FVec Ideal S32x3 .f32) (b : FVec Ideal S3 .f32) (e : Fin 3), outT (res_main_v19 V) (hidT (res_main_v13 V) X wh bh) w b (ix2 r e)
      = ∑ j, L.hid (fun d => X (ix2 r d)) j * (w (ix2 j e) * maskO j e) + b (ix1 e) := fun w b e => by
    rw [outT_apply]
    simp only [hh]
  have hr : ∀ Y : FVec Ideal S2000000x3 .f32, Host.reverse [1] Y (ix2 r d) = Y (ix2 r d.rev) := fun Y =>
    congrArg Y (funext fun y => match y with | ⟨0, _⟩ => rfl | ⟨1, _⟩ => rfl)
  unfold layT
  rw [hr]
  show (X (ix2 r d.rev) - outT _ _ wm bm (ix2 r d.rev)) * Ideal.exp (-(Ideal.tanh (outT _ _ wa ba (ix2 r d.rev)))) = _
  rw [ho, ho]
  simp only [Layer.run, Layer.step, h₃, h₄, h₅, h₆]

/-! ## The arguments and the layers' states -/

def b0 : FVec Ideal S2000000x4 .f32 := V (Proc.devRef .tc main_arg0)
def b1 : FVec Ideal S4x64 .f32 := V (Proc.devRef .tc main_arg1)
def b2 : FVec Ideal S64 .f32 := V (Proc.devRef .tc main_arg2)
def b3 : FVec Ideal S64x32 .f32 := V (Proc.devRef .tc main_arg3)
def b4 : FVec Ideal S32 .f32 := V (Proc.devRef .tc main_arg4)
def b5 : FVec Ideal S32x8 .f32 := V (Proc.devRef .tc main_arg5)
def b6 : FVec Ideal S8 .f32 := V (Proc.devRef .tc main_arg6)
def b7 : FVec Ideal S8x3 .f32 := V (Proc.devRef .tc main_arg7)
def b8 : FVec Ideal S3 .f32 := V (Proc.devRef .tc main_arg8)
def b9 : FVec Ideal S10x3x32 .f32 := V (Proc.devRef .tc main_arg9)
def b10 : FVec Ideal S10x32 .f32 := V (Proc.devRef .tc main_arg10)
def b11 : FVec Ideal S10x32x3 .f32 := V (Proc.devRef .tc main_arg11)
def b12 : FVec Ideal S10x3 .f32 := V (Proc.devRef .tc main_arg12)
def b13 : FVec Ideal S10x32x3 .f32 := V (Proc.devRef .tc main_arg13)
def b14 : FVec Ideal S10x3 .f32 := V (Proc.devRef .tc main_arg14)

/-- A row of an array of three columns. -/
def row (X : FVec Ideal S2000000x3 .f32) (r : Fin 2000000) (d : Fin 3) : EReal := X (ix2 r d)

/-- The reference's layer `l` of an array. -/
def nextT {l : ℕ} (h₁ : S10x3x32.Slices ![l, 0, 0] S1x3x32) (h₂ : S10x32.Slices ![l, 0] S1x32) (h₃ : S10x32x3.Slices ![l, 0, 0] S1x32x3)
    (h₄ : S10x3.Slices ![l, 0] S1x3) (X : FVec Ideal S2000000x3 .f32) : FVec Ideal S2000000x3 .f32 :=
  layT (res_main_v19 V) X
    (hidT (res_main_v13 V) X (shapeCast S3x32 (extractStridedSlice S1x3x32 ![l, 0, 0] (b9 V) h₁) shapeCasts_S1x3x32_S3x32)
      (shapeCast S32 (extractStridedSlice S1x32 ![l, 0] (b10 V) h₂) shapeCasts_S1x32_S32))
    (shapeCast S32x3 (extractStridedSlice S1x32x3 ![l, 0, 0] (b11 V) h₃) shapeCasts_S1x32x3_S32x3)
    (shapeCast S3 (extractStridedSlice S1x3 ![l, 0] (b12 V) h₄) shapeCasts_S1x3_S3)
    (shapeCast S32x3 (extractStridedSlice S1x32x3 ![l, 0, 0] (b13 V) h₃) shapeCasts_S1x32x3_S32x3)
    (shapeCast S3 (extractStridedSlice S1x3 ![l, 0] (b14 V) h₄) shapeCasts_S1x3_S3)

/-- The layers' weights, of the arguments. -/
abbrev layV : Fin 10 → Layer := lay (b9 V) (b10 V) (b11 V) (b12 V) (b13 V) (b14 V)

theorem next_row {l : ℕ} (h₁ : S10x3x32.Slices ![l, 0, 0] S1x3x32) (h₂ : S10x32.Slices ![l, 0] S1x32) (h₃ : S10x32x3.Slices ![l, 0, 0] S1x32x3)
    (h₄ : S10x3.Slices ![l, 0] S1x3) (hl : l < 10) (X : FVec Ideal S2000000x3 .f32) (r : Fin 2000000) :
    row (nextT V h₁ h₂ h₃ h₄ X) r = (layV V ⟨l, hl⟩).run (row X r) := by
  funext d
  refine layT_apply V X _ _ _ _ _ _ (layV V ⟨l, hl⟩) (fun d j => ?_) (fun j => ?_) (fun j d => ?_) (fun d => ?_) (fun j d => ?_) (fun d => ?_) r d
  · exact congrArg (· * maskH d j) (cut3 hl (b9 V) h₁ _ d j).symm
  · exact (cut2 hl (b10 V) h₂ _ j).symm
  · exact congrArg (· * maskO j d) (cut3 hl (b11 V) h₃ _ j d).symm
  · exact (cut2 hl (b12 V) h₄ _ d).symm
  · exact congrArg (· * maskO j d) (cut3 hl (b13 V) h₃ _ j d).symm
  · exact (cut2 hl (b14 V) h₄ _ d).symm

/-- An array that is layer `l` of another has the layer's rows. -/
theorem step_row {X Y : FVec Ideal S2000000x3 .f32} {l : ℕ} (h₁ : S10x3x32.Slices ![l, 0, 0] S1x3x32) (h₂ : S10x32.Slices ![l, 0] S1x32)
    (h₃ : S10x32x3.Slices ![l, 0, 0] S1x32x3) (h₄ : S10x3.Slices ![l, 0] S1x3) (hl : l < 10) (h : Y = nextT V h₁ h₂ h₃ h₄ X)
    {r : Fin 2000000} {x : Fin 3 → EReal} (hx : row X r = x) : row Y r = (layV V ⟨l, hl⟩).run x := by
  rw [h, next_row V h₁ h₂ h₃ h₄ hl, hx]

/-- The last layer's output. -/
def last : FVec Ideal S2000000x3 .f32 :=
  nextT V slices_S10x3x32_S1x3x32_9_0_0 slices_S10x32_S1x32_9_0 slices_S10x32x3_S1x32x3_9_0_0 slices_S10x3_S1x3_9_0 (res_main_v343 V)

/-- The ten layers of a row. -/
theorem flow_row (r : Fin 2000000) : row (last V) r = flow (layV V) (row (res_main_v37 V) r) := by
  refine step_row V (X := res_main_v343 V) slices_S10x3x32_S1x3x32_9_0_0 slices_S10x32_S1x32_9_0 slices_S10x32x3_S1x32x3_9_0_0 slices_S10x3_S1x3_9_0 (by decide) rfl ?_
  refine step_row V (X := res_main_v309 V) slices_S10x3x32_S1x3x32_8_0_0 slices_S10x32_S1x32_8_0 slices_S10x32x3_S1x32x3_8_0_0 slices_S10x3_S1x3_8_0 (by decide) rfl ?_
  refine step_row V (X := res_main_v275 V) slices_S10x3x32_S1x3x32_7_0_0 slices_S10x32_S1x32_7_0 slices_S10x32x3_S1x32x3_7_0_0 slices_S10x3_S1x3_7_0 (by decide) rfl ?_
  refine step_row V (X := res_main_v241 V) slices_S10x3x32_S1x3x32_6_0_0 slices_S10x32_S1x32_6_0 slices_S10x32x3_S1x32x3_6_0_0 slices_S10x3_S1x3_6_0 (by decide) rfl ?_
  refine step_row V (X := res_main_v207 V) slices_S10x3x32_S1x3x32_5_0_0 slices_S10x32_S1x32_5_0 slices_S10x32x3_S1x32x3_5_0_0 slices_S10x3_S1x3_5_0 (by decide) rfl ?_
  refine step_row V (X := res_main_v173 V) slices_S10x3x32_S1x3x32_4_0_0 slices_S10x32_S1x32_4_0 slices_S10x32x3_S1x32x3_4_0_0 slices_S10x3_S1x3_4_0 (by decide) rfl ?_
  refine step_row V (X := res_main_v139 V) slices_S10x3x32_S1x3x32_3_0_0 slices_S10x32_S1x32_3_0 slices_S10x32x3_S1x32x3_3_0_0 slices_S10x3_S1x3_3_0 (by decide) rfl ?_
  refine step_row V (X := res_main_v105 V) slices_S10x3x32_S1x3x32_2_0_0 slices_S10x32_S1x32_2_0 slices_S10x32x3_S1x32x3_2_0_0 slices_S10x3_S1x3_2_0 (by decide) rfl ?_
  refine step_row V (X := res_main_v71 V) slices_S10x3x32_S1x3x32_1_0_0 slices_S10x32_S1x32_1_0 slices_S10x32x3_S1x32x3_1_0_0 slices_S10x3_S1x3_1_0 (by decide) rfl ?_
  exact step_row V (X := res_main_v37 V) slices_S10x3x32_S1x3x32_0_0_0 slices_S10x32_S1x32_0_0 slices_S10x32x3_S1x32x3_0_0_0 slices_S10x3_S1x3_0_0 (by decide) rfl rfl

/-! ## The encoder -/

theorem enc_row (r : Fin 2000000) : row (res_main_v37 V) r
    = enc (b1 V) (b2 V) (b3 V) (b4 V) (b5 V) (b6 V) (b7 V) (b8 V) fun i => b0 V (ix2 r i) := by
  funext d
  unfold row res_main_v37 enc proj
  refine (affine rfl (by decide) _ (b7 V) (b8 V) _ _ r d).trans ?_
  refine congrArg (fun s : EReal => s + b8 V (ix1 d)) (Finset.sum_congr rfl fun c _ => congrArg (fun s : EReal => s * b7 V (ix2 c d)) ?_)
  refine (affine rfl (by decide) _ (b5 V) (b6 V) _ _ r c).trans ?_
  refine congrArg (fun s : EReal => s + b6 V (ix1 c)) (Finset.sum_congr rfl fun k _ => congrArg (fun s : EReal => s * b5 V (ix2 k c)) ?_)
  refine (relu _ _ _).trans (congrArg (max · 0) ((affine rfl (by decide) _ (b3 V) (b4 V) _ _ r k).trans ?_))
  refine congrArg (fun s : EReal => s + b4 V (ix1 k)) (Finset.sum_congr rfl fun j _ => congrArg (fun s : EReal => s * b3 V (ix2 j k)) ?_)
  exact (relu _ _ _).trans (congrArg (max · 0) (affine rfl (by decide) (b0 V) (b1 V) (b2 V) _ _ r j))

/-! ## The result -/

/-- The squashed array, at an element. -/
theorem squash_apply (i : S2000000x3.Idx) : (res_main_v383 V : FVec Ideal S2000000x3 .f32) i = Ideal.logistic (last V i) := by
  have h1 : ∀ j, (broadcastInDim S2000000x3 ![] bcast_S_S2000000x3 (constant S_ .f32 0x3F800000#32) : FVec Ideal S2000000x3 .f32) j = (1 : EReal) := fun j =>
    (broadcastInDim_scalar_apply bcast_S_S2000000x3 _ j).trans Ideal.ofBits_one_f32
  exact congrArg₂ (fun a b : EReal => Ideal.div a (b + Ideal.exp (-(last V i)))) (h1 i) (h1 i)

/-- One column of an array of three, taken out and put upright. -/
theorem column {l : ℕ} (hl : l < 3) (X : FVec Ideal S2000000x3 .f32) (h : S2000000x3.Slices ![0, l] S2000000x1) (r : Fin 2000000) :
    (shapeCast S2000000 (extractStridedSlice S2000000x1 ![0, l] X h) shapeCasts_S2000000x1_S2000000 : FVec Ideal S2000000 .f32) (ix1 r) = X (ix2 r ⟨l, hl⟩) := by
  refine (shapeCast_apply _ shapeCasts_S2000000x1_S2000000 (ix1 r) (ix2 r (0 : Fin 1)) ?_).trans
    (extractStridedSlice_apply _ X h (ix2 r (0 : Fin 1)) (ix2 r ⟨l, hl⟩) fun x => ?_)
  · rw [Shape.rowMajor_val_two, Shape.rowMajor_val_one]
    exact Nat.mul_one r.val
  · match x with
    | ⟨0, _⟩ => exact (Nat.zero_add _).symm
    | ⟨1, _⟩ => exact (Nat.add_zero _).symm

theorem upright (v : FVec Ideal S2000000 .f32) (r : Fin 2000000) :
    (broadcastInDim S2000000x1 ![0] bcast_S2000000_S2000000x1_0 v : FVec Ideal S2000000x1 .f32) (ix2 r 0) = v (ix1 r) :=
  broadcastInDim_apply _ bcast_S2000000_S2000000x1_0 v (ix2 r (0 : Fin 1)) (ix1 r) fun x => match x with
    | ⟨0, _⟩ => (if_neg (by decide : ¬ (2000000 : ℕ) = 1)).symm

/-- Three columns side by side. -/
theorem beside (u v w : FVec Ideal S2000000x1 .f32) (r : Fin 2000000) (d : Fin 3) :
    (concatenate S2000000x3 1 [⟨S2000000x1, u⟩, ⟨S2000000x1, v⟩, ⟨S2000000x1, w⟩] concatenates_S2000000x1_S2000000x1_S2000000x1_S2000000x3_d1 :
      FVec Ideal S2000000x3 .f32) (ix2 r d) = ![u (ix2 r 0), v (ix2 r 0), w (ix2 r 0)] d := by
  have off : ∀ b : Fin 2, b ≠ 1 → ((ix2 r (0 : Fin 1) : S2000000x1.Idx) b).val = ((ix2 r d : S2000000x3.Idx) b).val := fun b hb => by
    fin_cases b
    · rfl
    · exact absurd rfl hb
  fin_cases d
  · exact concatenate_apply_piece (t := S2000000x3) 1 [⟨S2000000x1, u⟩, ⟨S2000000x1, v⟩, ⟨S2000000x1, w⟩]
      concatenates_S2000000x1_S2000000x1_S2000000x1_S2000000x3_d1 (ix2 r 0) 0 (by show 0 < 3; decide) S2000000x1 u rfl rfl 0 rfl (ix2 r 0) off rfl
  · exact concatenate_apply_piece (t := S2000000x3) 1 [⟨S2000000x1, u⟩, ⟨S2000000x1, v⟩, ⟨S2000000x1, w⟩]
      concatenates_S2000000x1_S2000000x1_S2000000x1_S2000000x3_d1 (ix2 r 1) 1 (by show 1 < 3; decide) S2000000x1 v rfl rfl 1 rfl (ix2 r 0) off rfl
  · exact concatenate_apply_piece (t := S2000000x3) 1 [⟨S2000000x1, u⟩, ⟨S2000000x1, v⟩, ⟨S2000000x1, w⟩]
      concatenates_S2000000x1_S2000000x1_S2000000x1_S2000000x3_d1 (ix2 r 2) 2 (by show 2 < 3; decide) S2000000x1 w rfl rfl 2 rfl (ix2 r 0) off rfl

/-- The three columns of an array, the first times twice pi. -/
def cols (X : FVec Ideal S2000000x3 .f32) : FVec Ideal S2000000x3 .f32 :=
  concatenate S2000000x3 1 [⟨S2000000x1, broadcastInDim S2000000x1 ![0] bcast_S2000000_S2000000x1_0
      (mulf (broadcastInDim S2000000 ![] bcast_S_S2000000 (constant S_ .f32 0x40C90FDB#32))
        (shapeCast S2000000 (extractStridedSlice S2000000x1 ![0, 0] X slices_S2000000x3_S2000000x1_0_0) shapeCasts_S2000000x1_S2000000))⟩,
    ⟨S2000000x1, broadcastInDim S2000000x1 ![0] bcast_S2000000_S2000000x1_0
      (shapeCast S2000000 (extractStridedSlice S2000000x1 ![0, 1] X slices_S2000000x3_S2000000x1_0_1) shapeCasts_S2000000x1_S2000000)⟩,
    ⟨S2000000x1, broadcastInDim S2000000x1 ![0] bcast_S2000000_S2000000x1_0
      (shapeCast S2000000 (extractStridedSlice S2000000x1 ![0, 2] X slices_S2000000x3_S2000000x1_0_2) shapeCasts_S2000000x1_S2000000)⟩]
    concatenates_S2000000x1_S2000000x1_S2000000x1_S2000000x3_d1

theorem three (X : FVec Ideal S2000000x3 .f32) (r : Fin 2000000) (x : Fin 3 → EReal) (hX : ∀ e, X (ix2 r e) = Ideal.logistic (x e)) (d : Fin 3) :
    cols X (ix2 r d) = out tau x d := by
  unfold cols
  rw [beside, upright, upright, upright, column (by decide), column (by decide)]
  match d with
  | ⟨0, _⟩ =>
    show _ * _ = Ideal.logistic (x 0) * tau
    rw [column (by decide)]
    exact (congrArg₂ (fun a b : EReal => a * b) (broadcastInDim_scalar_apply bcast_S_S2000000 _ (ix1 r)) (hX 0)).trans (mul_comm _ _)
  | ⟨1, _⟩ => exact (hX 1).trans (mul_one _).symm
  | ⟨2, _⟩ => exact (hX 2).trans (mul_one _).symm

/-- The reference's result at an element: its row through the encoder, the layers and the logistic function. -/
theorem res_apply (r : Fin 2000000) (d : Fin 3) : cols (res_main_v383 V) (ix2 r d)
    = out tau (flow (layV V) (enc (b1 V) (b2 V) (b3 V) (b4 V) (b5 V) (b6 V) (b7 V) (b8 V) fun i => b0 V (ix2 r i))) d := by
  have hx : ∀ e : Fin 3, (res_main_v383 V : FVec Ideal S2000000x3 .f32) (ix2 r e)
      = Ideal.logistic (flow (layV V) (enc (b1 V) (b2 V) (b3 V) (b4 V) (b5 V) (b6 V) (b7 V) (b8 V) fun i => b0 V (ix2 r i)) e) := fun e => by
    rw [squash_apply, ← enc_row, ← flow_row]
    rfl
  exact three _ r _ hx d

end Cert.Proof.Ref
end
-- ==== Proof.Values.lean ====
/- The two results are one array: of an encoder whose numbers are finite, the kernel's row and the reference's row are the
   same function of the arguments. -/
module

public import proofs.«01_k».proof.Defs
public import proofs.«01_k».proof.Proof.KernelResult
public import proofs.«01_k».proof.Proof.RefValue
public import Idealize.ShloMosaic.Lib.Claim

@[expose] public section

noncomputable section

namespace Cert.Proof.Values

open Idealize.ShloMosaic hiding ix1 ix2 ix3 ix4
open Idealize.ShloMosaic.ValueIdx Idealize.ShloMosaic.TcCoe Idealize.ShloMosaic.StableHlo Cert.Proof.Spec

/-- The shape relations the precondition's program states. -/
theorem pre_facts : Cert.Pre_encoder_finite.Facts where
  bcast_S_S2000000x4 := by decide
  bcast_S_S4x64 := by decide
  bcast_S_S64 := by decide
  bcast_S_S64x32 := by decide
  bcast_S_S32 := by decide
  bcast_S_S32x8 := by decide
  bcast_S_S8 := by decide
  bcast_S_S8x3 := by decide

/-- The word the precondition compares with is infinity. -/
theorem ofBits_infinity : Ideal.ofBits .f32 0x7F800000#32 = ⊤ := by
  simp [Ideal.ofBits, Ideal.ieee]

/-- An array whose absolute values compare below infinity holds real numbers. -/
theorem real_of {s : Shape} (X : FVec Ideal s .f32) (h : (⟨0, ![]⟩ : Shape).BroadcastsInDim s ![])
    (hp : cmpf .olt (Host.absf X) (broadcastInDim s ![] h (constant (⟨0, ![]⟩ : Shape) .f32 0x7F800000#32)) = fun _ => 1#1) (i : s.Idx) : IsReal (X i) := by
  have e : Ideal.cmp .olt (max (X i) (-(X i))) (Ideal.ofBits .f32 0x7F800000#32) = 1#1 := congrFun hp i
  rw [ofBits_infinity] at e
  have lt : max (X i) (-(X i)) < ⊤ := by
    by_contra hn
    rw [show Ideal.cmp .olt (max (X i) (-(X i))) ⊤ = BitVec.ofBool (decide (max (X i) (-(X i)) < ⊤)) from rfl, decide_eq_false hn] at e
    exact absurd e (by decide)
  have h1 : X i ≠ ⊤ := fun hx => by rw [hx] at lt; simp at lt
  have h2 : X i ≠ ⊥ := fun hx => by rw [hx] at lt; simp at lt
  exact ⟨(X i).toReal, (EReal.coe_toReal h1 h2).symm⟩

variable (m : (ℓ : Loc Cert.KernelIdeal.nD Cert.KernelIdeal.τ Cert.KernelIdeal.sig) → Buf (Elt Ideal) ℓ) (c : Dev Cert.KernelIdeal.nD)

/-- Under the precondition the kernel's order of the encoder is the reference's. -/
theorem encoder_eq (hpre : Cert.Pre_KernelIdeal_encoder_finite (hPre_encoder_finite := pre_facts) m) (r : Fin 2000000) (d : Fin 3) :
    kproj (enc2 (enc1 (fun i => Host.a0 m c (ix2 r i)) (fun i j => Host.a1 m c (ix2 i j)) fun j => Host.a2 m c (ix1 j))
        (fun j k => Host.a3 m c (ix2 j k)) fun k => Host.a4 m c (ix1 k))
      (fun k i => Host.a5 m c (ix2 k i)) (fun i => Host.a6 m c (ix1 i)) (fun i d => Host.a7 m c (ix2 i d)) (fun d => Host.a8 m c (ix1 d)) d
    = enc (Host.a1 m c) (Host.a2 m c) (Host.a3 m c) (Host.a4 m c) (Host.a5 m c) (Host.a6 m c) (Host.a7 m c) (Host.a8 m c)
        (fun i => Host.a0 m c (ix2 r i)) d := by
  obtain ⟨p0, p1, p2, p3, p4, p5, p6, p7⟩ := hpre c
  have f := pre_facts
  have r0 := real_of (Host.a0 m c) f.bcast_S_S2000000x4 p0
  have r1 := real_of (Host.a1 m c) f.bcast_S_S4x64 p1
  have r2 := real_of (Host.a2 m c) f.bcast_S_S64 p2
  have r3 := real_of (Host.a3 m c) f.bcast_S_S64x32 p3
  have r4 := real_of (Host.a4 m c) f.bcast_S_S32 p4
  have r5 := real_of (Host.a5 m c) f.bcast_S_S32x8 p5
  have r6 := real_of (Host.a6 m c) f.bcast_S_S8 p6
  have r7 := real_of (Host.a7 m c) f.bcast_S_S8x3 p7
  exact kproj_eq (fun d => Host.a8 m c (ix1 d))
    (enc2_real (enc1_real (fun i => r0 (ix2 r i)) (fun i j => r1 (ix2 i j)) fun j => r2 (ix1 j)) (fun j k => r3 (ix2 j k)) fun k => r4 (ix1 k))
    (fun k i => r5 (ix2 k i)) (fun i => r6 (ix1 i)) (fun i d => r7 (ix2 i d)) d

open Cert.KernelIdeal Cert.KernelIdeal.Gen in
/-- The kernel's result, as its run leaves it. -/
def result : FVec Ideal Cert.KernelIdeal.S2000000x3 .f32 := Pipeline.afterTail₀ cfgs (dats m) 0 (V0 m) [hostOps1] c main_v53

/-- Arguments that agree and an encoder whose numbers are finite give one result. -/
theorem result_eq (V : Valuation Cert.ReferenceIdeal.τ Cert.ReferenceIdeal.sig (Elt Ideal))
    (hpre : Cert.Pre_KernelIdeal_encoder_finite (hPre_encoder_finite := pre_facts) m)
    (e0 : Ref.b0 V = Host.a0 m c) (e1 : Ref.b1 V = Host.a1 m c) (e2 : Ref.b2 V = Host.a2 m c) (e3 : Ref.b3 V = Host.a3 m c)
    (e4 : Ref.b4 V = Host.a4 m c) (e5 : Ref.b5 V = Host.a5 m c) (e6 : Ref.b6 V = Host.a6 m c) (e7 : Ref.b7 V = Host.a7 m c)
    (e8 : Ref.b8 V = Host.a8 m c) (e9 : Ref.b9 V = Host.a9 m c) (e10 : Ref.b10 V = Host.a10 m c) (e11 : Ref.b11 V = Host.a11 m c)
    (e12 : Ref.b12 V = Host.a12 m c) (e13 : Ref.b13 V = Host.a13 m c) (e14 : Ref.b14 V = Host.a14 m c) :
    Ref.cols (Cert.ReferenceIdeal.Value.res_main_v383 V) = result m c := by
  funext y
  obtain ⟨r, d, rfl⟩ : ∃ (r : Fin 2000000) (d : Fin 3), y = ix2 r d := ⟨_, _, ValueIdx.eq_ix2 (n0 := _) (n1 := _) y⟩
  refine (Ref.res_apply V r d).trans (Eq.trans ?_ (Host.res_apply m c r d).symm)
  have h := funext fun d => encoder_eq m c hpre r d
  rw [Ref.layV, e0, e1, e2, e3, e4, e5, e6, e7, e8, e9, e10, e11, e12, e13, e14, h]

end Cert.Proof.Values
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Kernel.Frame
public import proofs.«01_k».proof.Proof.Gen.KernelIdeal.Frame
public import proofs.«01_k».proof.Proof.Gen.ReferenceIdeal.Read
public import proofs.«01_k».proof.Proof.Values
public import Idealize.ShloMosaic.Adequacy
public import Idealize.ShloMosaic.Init

@[expose] public section

noncomputable section

namespace Cert.Proof

open Idealize.ShloMosaic Idealize.SL.Sem Cert.Kernel

/-- The reference's frame: its run leaves every argument as it was, and it declares no semaphore. -/
theorem frame_ri : Cert.quiescent_ReferenceIdeal := by
  intro m ρ _
  exact (θ_run Cert.ReferenceIdeal.defs _ _).mono (fun r h => ⟨fun c => (h c).2,
      Idealize.ShloMosaic.sem_eq_zero_of_no_sems (by decide) r.2⟩) (Cert.ReferenceIdeal.Value.run (F := Ideal) m ρ)

/-- The kernel's result is the reference's, of any arguments whose encoder is finite. -/
theorem algebraic : Cert.algebraic_KernelIdeal_ReferenceIdeal_pre_encoder_finite (hPre_encoder_finite := Values.pre_facts) := by
  intro m g m' g' hpre heq
  refine ⟨fun c => Values.result m c, ?_, ?_⟩
  · exact (θ_run Cert.KernelIdeal.defs _ _).mono (fun r h c => ⟨h.1 c, h.2 c⟩)
      (θ_run_and (Host.run m g) (Cert.KernelIdeal.Gen.unchanged m g))
  · refine (θ_run Cert.ReferenceIdeal.defs _ _).mono (fun r h c => ⟨(h c).1.trans ?_, (h c).2⟩)
      (Cert.ReferenceIdeal.Value.run (F := Ideal) m' g')
    obtain ⟨e0, e1, e2, e3, e4, e5, e6, e7, e8, e9, e10, e11, e12, e13, e14⟩ := heq c
    exact Values.result_eq m c (StableHlo.launchContents m' c) hpre e0 e1 e2 e3 e4 e5 e6 e7 e8 e9 e10 e11 e12 e13 e14

theorem claim : Cert.Claim := ⟨Cert.Kernel.Gen.facts, Cert.KernelIdeal.Gen.facts, Cert.ReferenceIdeal.Gen.facts, Values.pre_facts,
  fun m ρ _ => Cert.Kernel.Gen.frame m ρ, fun m ρ _ => Cert.KernelIdeal.Gen.frame m ρ,
  fun m ρ _ => Cert.KernelIdeal.Gen.frame m ρ, frame_ri, fun m ρ _ => frame_ri m ρ trivial, trivial, algebraic⟩

end Cert.Proof

end
